-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_banded_and_finite [hPre_banded_and_finite : Cert.Pre_banded_and_finite.Facts] (m : (ℓ : Loc Cert.KernelIdeal.nD Cert.KernelIdeal.τ Cert.KernelIdeal.sig) → Buf (Elt Ideal) ℓ) : Prop :=
  ∀ c : Dev Cert.KernelIdeal.nD,
    (Cert.Pre_banded_and_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_banded_and_finite [hPre_banded_and_finite : Cert.Pre_banded_and_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_banded_and_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_KernelIdeal_pre_banded_and_finite [hKernelIdeal : Cert.KernelIdeal.Facts] [hPre_banded_and_finite : Cert.Pre_banded_and_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_banded_and_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def quiescent_ReferenceIdeal_pre_banded_and_finite [hReferenceIdeal : Cert.ReferenceIdeal.Facts] [hPre_banded_and_finite : Cert.Pre_banded_and_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_banded_and_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_banded_and_finite [hKernelIdeal : Cert.KernelIdeal.Facts] [hReferenceIdeal : Cert.ReferenceIdeal.Facts] [hPre_banded_and_finite : Cert.Pre_banded_and_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_banded_and_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v15) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7))

def Claim : Prop :=
  ∃ (hKernel : Cert.Kernel.Facts) (hKernelIdeal : Cert.KernelIdeal.Facts) (hReferenceIdeal : Cert.ReferenceIdeal.Facts) (hPre_banded_and_finite : Cert.Pre_banded_and_finite.Facts),
    quiescent_Kernel (hKernel := hKernel)
    ∧ quiescent_KernelIdeal (hKernelIdeal := hKernelIdeal)
    ∧ quiescent_KernelIdeal_pre_banded_and_finite (hKernelIdeal := hKernelIdeal) (hPre_banded_and_finite := hPre_banded_and_finite)
    ∧ quiescent_ReferenceIdeal (hReferenceIdeal := hReferenceIdeal)
    ∧ quiescent_ReferenceIdeal_pre_banded_and_finite (hReferenceIdeal := hReferenceIdeal) (hPre_banded_and_finite := hPre_banded_and_finite)
    ∧ preserves_Kernel_KernelIdeal
    ∧ algebraic_KernelIdeal_ReferenceIdeal_pre_banded_and_finite (hKernelIdeal := hKernelIdeal) (hReferenceIdeal := hReferenceIdeal) (hPre_banded_and_finite := hPre_banded_and_finite)
-- ==== Pre_banded_and_finite.lean ====
abbrev S16x2048x64 : Shape := ⟨3, ![16, 2048, 64]⟩
abbrev S131072 : Shape := ⟨1, ![131072]⟩
abbrev S2048 : Shape := ⟨1, ![2048]⟩
abbrev S2049 : Shape := ⟨1, ![2049]⟩
abbrev S1 : Shape := ⟨1, ![1]⟩
abbrev S2048x64 : Shape := ⟨2, ![2048, 64]⟩
abbrev S2048x1 : Shape := ⟨2, ![2048, 1]⟩
abbrev S_ : Shape := ⟨0, ![]⟩
abbrev S64 : Shape := ⟨1, ![64]⟩
abbrev S1x64 : Shape := ⟨2, ![1, 64]⟩

class Facts : Prop where
  shapeCasts_S131072_S2048x64 : S131072.ShapeCasts S2048x64
  slices_S2048x64_S2048x1_0_0 : S2048x64.Slices ![0, 0] S2048x1
  bcast_S2048_S2048x1_0 : S2048.BroadcastsInDim S2048x1 (![0] : Fin 1 → Fin S2048x1.rank)
  bcast_S_S2048x1 : S_.BroadcastsInDim S2048x1 (![] : Fin 0 → Fin S2048x1.rank)
  bcast_S64_S1x64_1 : S64.BroadcastsInDim S1x64 (![1] : Fin 1 → Fin S1x64.rank)
  bcast_S2048x1_S2048x64_0_1 : S2048x1.BroadcastsInDim S2048x64 (![0, 1] : Fin 2 → Fin S2048x64.rank)
  bcast_S1x64_S2048x64_0_1 : S1x64.BroadcastsInDim S2048x64 (![0, 1] : Fin 2 → Fin S2048x64.rank)
  bcast_S_S16x2048x64 : S_.BroadcastsInDim S16x2048x64 (![] : Fin 0 → Fin S16x2048x64.rank)
  reducesTo_S16x2048x64_S_d0_1_2 : S16x2048x64.ReducesTo [0, 1, 2] S_
  h_S_ : 0 < S_.numel
  reducesTo_S2048x64_S_d0_1 : S2048x64.ReducesTo [0, 1] S_

variable [Facts]

def fn_where {F : FTy → Type} [FloatOps F] (arg0 : IVec S2048x1 1) (arg1 : IVec S2048x1 32) (arg2 : IVec S2048x1 32) : IVec S2048x1 32 :=
  let v0 : IVec S2048x1 32 := select arg0 arg1 arg2
  v0

def fn_floor_divide {F : FTy → Type} [FloatOps F] (arg0 : IVec S2048x1 32) (arg1 : IVec S_ 32) : IVec S2048x1 32 :=
  let v0 : IVec S_ 32 := id arg1
  let v1 : IVec S2048x1 32 := broadcastInDim S2048x1 ![] bcast_S_S2048x1 v0
  let v2 : IVec S2048x1 32 := Host.divsi arg0 v1
  let v3 : IVec S2048x1 32 := signi arg0
  let v4 : IVec S_ 32 := signi v0
  let v5 : IVec S2048x1 32 := broadcastInDim S2048x1 ![] bcast_S_S2048x1 v4
  let v6 : IVec S2048x1 1 := cmpi .ne v3 v5
  let v7 : IVec S2048x1 32 := broadcastInDim S2048x1 ![] bcast_S_S2048x1 v0
  let v8 : IVec S2048x1 32 := Host.remsi arg0 v7
  let c : IVec S_ 32 := constantI S_ 32 0#32
  let v9 : IVec S2048x1 32 := broadcastInDim S2048x1 ![] bcast_S_S2048x1 c
  let v10 : IVec S2048x1 1 := cmpi .ne v8 v9
  let v11 : IVec S2048x1 1 := andi v6 v10
  let c_0 : IVec S_ 32 := constantI S_ 32 1#32
  let v12 : IVec S2048x1 32 := broadcastInDim S2048x1 ![] bcast_S_S2048x1 c_0
  let v13 : IVec S2048x1 32 := subi v2 v12
  let v14 : IVec S2048x1 32 := fn_where (F := F) v11 v13 v2
  v14

def fn_part2 {F : FTy → Type} [FloatOps F] (main_arg1 : FVec F S16x2048x64 .f32) (main_v26 : IVec S2048x64 1) (main_v33 : IVec S_ 1) (main_v35 : IVec S16x2048x64 1) (main_v36 : FVec F S_ .f32) : IVec S_ 1 :=
  let main_v37 : FVec F S16x2048x64 .f32 := broadcastInDim S16x2048x64 ![] bcast_S_S16x2048x64 main_v36
  let main_v38 : IVec S16x2048x64 1 := cmpf .ogt main_arg1 main_v37
  let main_v39 : IVec S16x2048x64 1 := andi main_v35 main_v38
  let main_c_9 : IVec S_ 1 := constantI S_ 1 1#1
  let main_v40 : IVec S_ 1 := (fun x v => Host.reduce IntOp.andi x v reducesTo_S16x2048x64_S_d0_1_2 h_S_) main_v39 main_c_9
  let main_v41 : IVec S_ 1 := andi main_v33 main_v40
  let main_c_10 : IVec S_ 1 := constantI S_ 1 1#1
  let main_v42 : IVec S_ 1 := (fun x v => Host.reduce IntOp.andi x v reducesTo_S2048x64_S_d0_1 h_S_) main_v26 main_c_10
  let main_v43 : IVec S_ 1 := andi main_v42 main_v41
  main_v43

def fn_part1 {F : FTy → Type} [FloatOps F] (main_arg0 : FVec F S16x2048x64 .f32) (main_arg1 : FVec F S16x2048x64 .f32) (main_v0 : IVec S2048x64 32) (main_v1 : IVec S2048x1 32) (main_v10 : IVec S2048x1 32) (main_v14 : IVec S2048x1 32) (main_v16 : IVec S1x64 32) (main_v17 : IVec S2048x64 32) : IVec S_ 1 :=
  let main_v18 : IVec S2048x64 32 := broadcastInDim S2048x64 ![0, 1] bcast_S1x64_S2048x64_0_1 main_v16
  let main_v19 : IVec S2048x64 32 := addi main_v17 main_v18
  let main_v20 : IVec S2048x64 1 := cmpi .eq main_v0 main_v19
  let main_v21 : IVec S2048x1 1 := cmpi .sge main_v1 main_v10
  let main_v22 : IVec S2048x64 1 := broadcastInDim S2048x64 ![0, 1] bcast_S2048x1_S2048x64_0_1 main_v21
  let main_v23 : IVec S2048x64 1 := andi main_v20 main_v22
  let main_v24 : IVec S2048x1 1 := cmpi .sle main_v1 main_v14
  let main_v25 : IVec S2048x64 1 := broadcastInDim S2048x64 ![0, 1] bcast_S2048x1_S2048x64_0_1 main_v24
  let main_v26 : IVec S2048x64 1 := andi main_v23 main_v25
  let main_cst : FVec F S_ .f32 := constant S_ .f32 0x7F800000#32
  let main_v27 : FVec F S16x2048x64 .f32 := broadcastInDim S16x2048x64 ![] bcast_S_S16x2048x64 main_cst
  let main_v28 : IVec S16x2048x64 1 := cmpf .olt main_arg0 main_v27
  let main_cst_5 : FVec F S_ .f32 := constant S_ .f32 0x7F800000#32
  let main_v29 : FVec F S_ .f32 := Host.negf main_cst_5
  let main_v30 : FVec F S16x2048x64 .f32 := broadcastInDim S16x2048x64 ![] bcast_S_S16x2048x64 main_v29
  let main_v31 : IVec S16x2048x64 1 := cmpf .ogt main_arg0 main_v30
  let main_v32 : IVec S16x2048x64 1 := andi main_v28 main_v31
  let main_c_6 : IVec S_ 1 := constantI S_ 1 1#1
  let main_v33 : IVec S_ 1 := (fun x v => Host.reduce IntOp.andi x v reducesTo_S16x2048x64_S_d0_1_2 h_S_) main_v32 main_c_6
  let main_cst_7 : FVec F S_ .f32 := constant S_ .f32 0x7F800000#32
  let main_v34 : FVec F S16x2048x64 .f32 := broadcastInDim S16x2048x64 ![] bcast_S_S16x2048x64 main_cst_7
  let main_v35 : IVec S16x2048x64 1 := cmpf .olt main_arg1 main_v34
  let main_cst_8 : FVec F S_ .f32 := constant S_ .f32 0x7F800000#32
  let main_v36 : FVec F S_ .f32 := Host.negf main_cst_8
  fn_part2 (F := F) main_arg1 main_v26 main_v33 main_v35 main_v36

def fn {F : FTy → Type} [FloatOps F] (main_arg0 : FVec F S16x2048x64 .f32) (main_arg1 : FVec F S16x2048x64 .f32) (main_arg2 : FVec F S16x2048x64 .f32) (main_arg3 : FVec F S131072 .f32) (main_arg4 : IVec S2048 32) (main_arg5 : IVec S2049 32) (main_arg6 : IVec S131072 32) (main_arg7 : IVec S1 32) : IVec S_ 1 :=
  let main_v0 : IVec S2048x64 32 := shapeCast S2048x64 main_arg6 shapeCasts_S131072_S2048x64
  let main_v1 : IVec S2048x1 32 := (extractStridedSlice S2048x1 ![0, 0] · slices_S2048x64_S2048x1_0_0) main_v0
  let main_v2 : IVec S2048 32 := iotaInDim S2048 32 0
  let main_v3 : IVec S2048x1 32 := broadcastInDim S2048x1 ![0] bcast_S2048_S2048x1_0 main_v2
  let main_c : IVec S_ 32 := constantI S_ 32 512#32
  let main_v4 : IVec S2048x1 32 := fn_floor_divide (F := F) main_v3 main_c
  let main_c_0 : IVec S_ 32 := constantI S_ 32 512#32
  let main_v5 : IVec S2048x1 32 := broadcastInDim S2048x1 ![] bcast_S_S2048x1 main_c_0
  let main_v6 : IVec S2048x1 32 := muli main_v5 main_v4
  let main_c_1 : IVec S_ 32 := constantI S_ 32 32#32
  let main_v7 : IVec S2048x1 32 := broadcastInDim S2048x1 ![] bcast_S_S2048x1 main_c_1
  let main_v8 : IVec S2048x1 32 := subi main_v6 main_v7
  let main_c_2 : IVec S_ 32 := constantI S_ 32 0#32
  let main_v9 : IVec S2048x1 32 := broadcastInDim S2048x1 ![] bcast_S_S2048x1 main_c_2
  let main_v10 : IVec S2048x1 32 := maxsi main_v8 main_v9
  let main_c_3 : IVec S_ 32 := constantI S_ 32 544#32
  let main_v11 : IVec S2048x1 32 := broadcastInDim S2048x1 ![] bcast_S_S2048x1 main_c_3
  let main_v12 : IVec S2048x1 32 := addi main_v6 main_v11
  let main_c_4 : IVec S_ 32 := constantI S_ 32 1984#32
  let main_v13 : IVec S2048x1 32 := broadcastInDim S2048x1 ![] bcast_S_S2048x1 main_c_4
  let main_v14 : IVec S2048x1 32 := minsi main_v12 main_v13
  let main_v15 : IVec S64 32 := iotaInDim S64 32 0
  let main_v16 : IVec S1x64 32 := broadcastInDim S1x64 ![1] bcast_S64_S1x64_1 main_v15
  let main_v17 : IVec S2048x64 32 := broadcastInDim S2048x64 ![0, 1] bcast_S2048x1_S2048x64_0_1 main_v1
  fn_part1 (F := F) main_arg0 main_arg1 main_v0 main_v1 main_v10 main_v14 main_v16 main_v17
-- ==== Kernel.lean ====
abbrev S16x2048x64 : Shape := ⟨3, ![16, 2048, 64]⟩
abbrev S131072 : Shape := ⟨1, ![131072]⟩
abbrev S2048 : Shape := ⟨1, ![2048]⟩
abbrev S2049 : Shape := ⟨1, ![2049]⟩
abbrev S1 : Shape := ⟨1, ![1]⟩
abbrev S1x2048x64 : Shape := ⟨3, ![1, 2048, 64]⟩
abbrev S4x512x640 : Shape := ⟨3, ![4, 512, 640]⟩
abbrev S2x2176x64 : Shape := ⟨3, ![2, 2176, 64]⟩
abbrev S2x2 : Shape := ⟨2, ![2, 2]⟩
abbrev S2x32x64 : Shape := ⟨3, ![2, 32, 64]⟩
abbrev S2x96x64 : Shape := ⟨3, ![2, 96, 64]⟩
abbrev S1x1 : Shape := ⟨2, ![1, 1]⟩
abbrev S_ : Shape := ⟨0, ![]⟩
abbrev S2048x64 : Shape := ⟨2, ![2048, 64]⟩
abbrev S512x640 : Shape := ⟨2, ![512, 640]⟩
abbrev S1x512x1 : Shape := ⟨3, ![1, 512, 1]⟩
abbrev S512x1 : Shape := ⟨2, ![512, 1]⟩
abbrev S1x512x640 : Shape := ⟨3, ![1, 512, 640]⟩
abbrev S1x512x64 : Shape := ⟨3, ![1, 512, 64]⟩
abbrev S512x64 : Shape := ⟨2, ![512, 64]⟩
abbrev S1x640x64 : Shape := ⟨3, ![1, 640, 64]⟩
abbrev S640x64 : Shape := ⟨2, ![640, 64]⟩
abbrev S512 : Shape := ⟨1, ![512]⟩

abbrev nBuf : Space → Nat
  | .hbm => 10
  | .vmem => 8
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S131072, .f32⟩
  | .hbm, ⟨4, _⟩ => ⟨S2048, .i32⟩
  | .hbm, ⟨5, _⟩ => ⟨S2049, .i32⟩
  | .hbm, ⟨6, _⟩ => ⟨S131072, .i32⟩
  | .hbm, ⟨7, _⟩ => ⟨S1, .i32⟩
  | .hbm, ⟨8, _⟩ => ⟨S1x2048x64, .i32⟩
  | .hbm, ⟨9, _⟩ => ⟨S16x2048x64, .f32⟩
  | .local _ .vmem, ⟨0, _⟩ => ⟨S1x2048x64, .i32⟩
  | .local _ .vmem, ⟨1, _⟩ => ⟨S1x2048x64, .f32⟩
  | .local _ .vmem, ⟨2, _⟩ => ⟨S1x2048x64, .f32⟩
  | .local _ .vmem, ⟨3, _⟩ => ⟨S1x2048x64, .f32⟩
  | .local _ .vmem, ⟨4, _⟩ => ⟨S1x2048x64, .f32⟩
  | .local _ .vmem, ⟨5, _⟩ => ⟨S4x512x640, .f32⟩
  | .local _ .vmem, ⟨6, _⟩ => ⟨S2x2176x64, .f32⟩
  | .local _ .vmem, ⟨7, _⟩ => ⟨S2x2176x64, .f32⟩
  | _, _ => ⟨S16x2048x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_scratch0 : Ref sig .tc := ⟨.vmem, 5, rfl⟩
abbrev cc0_scratch1 : Ref sig .tc := ⟨.vmem, 6, rfl⟩
abbrev cc0_scratch2 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![16], ![false]⟩

def k0_off1 (i : grid0.Coords) : Fin 2 → Nat :=
  let arg0 : BitVec 32 := BitVec.ofNat 32 (i 0).val
  let c2_i32 : BitVec 32 := 2#32
  let v0 : BitVec 32 := Scalar.remsi arg0 c2_i32
  let c0_i32_1 : BitVec 32 := 0#32
  ![v0.toNat, 0]
def k0_off2 (i : grid0.Coords) : Fin 3 → Nat :=
  let arg0 : BitVec 32 := BitVec.ofNat 32 (i 0).val
  let c2_i32 : BitVec 32 := 2#32
  let v0 : BitVec 32 := Scalar.remsi arg0 c2_i32
  let c32_i32 : BitVec 32 := 32#32
  let c0_i32_2 : BitVec 32 := 0#32
  ![v0.toNat, 32, 0]
def k0_off3 (i : grid0.Coords) : Fin 3 → Nat :=
  let arg0 : BitVec 32 := BitVec.ofNat 32 (i 0).val
  let c0_i32_3 : BitVec 32 := 0#32
  let c0_i32_4 : BitVec 32 := 0#32
  ![arg0.toNat, 0, 0]
def k0_off4 (i : grid0.Coords) : Fin 2 → Nat :=
  let arg0 : BitVec 32 := BitVec.ofNat 32 (i 0).val
  let c2_i32 : BitVec 32 := 2#32
  let v0 : BitVec 32 := Scalar.remsi arg0 c2_i32
  let c1_i32 : BitVec 32 := 1#32
  ![v0.toNat, 1]
def k0_cond2 (i : grid0.Coords) : BitVec 1 :=
  let arg0 : BitVec 32 := BitVec.ofNat 32 (i 0).val
  let c1_i32_9 : BitVec 32 := 1#32
  let v16 : BitVec 32 := Scalar.addi arg0 c1_i32_9
  let c16_i32 : BitVec 32 := 16#32
  let v17 : BitVec 1 := Scalar.cmpi .slt v16 c16_i32
  let v18 : BitVec 32 := Scalar.extui v17
  let c0_i32_10 : BitVec 32 := 0#32
  let v19 : BitVec 1 := Scalar.cmpi .ne v18 c0_i32_10
  v19

def k0_off5 (i : grid0.Coords) : Fin 2 → Nat :=
  let arg0 : BitVec 32 := BitVec.ofNat 32 (i 0).val
  let c1_i32_79 : BitVec 32 := 1#32
  let v140 : BitVec 32 := Scalar.addi arg0 c1_i32_79
  let c2_i32_80 : BitVec 32 := 2#32
  let v141 : BitVec 32 := Scalar.remsi v140 c2_i32_80
  let c0_i32_82 : BitVec 32 := 0#32
  ![v141.toNat, 0]
def k0_off6 (i : grid0.Coords) : Fin 3 → Nat :=
  let arg0 : BitVec 32 := BitVec.ofNat 32 (i 0).val
  let c1_i32_79 : BitVec 32 := 1#32
  let v140 : BitVec 32 := Scalar.addi arg0 c1_i32_79
  let c2_i32_80 : BitVec 32 := 2#32
  let v141 : BitVec 32 := Scalar.remsi v140 c2_i32_80
  let c32_i32_83 : BitVec 32 := 32#32
  let c0_i32_84 : BitVec 32 := 0#32
  ![v141.toNat, 32, 0]
def k0_off7 (i : grid0.Coords) : Fin 3 → Nat :=
  let arg0 : BitVec 32 := BitVec.ofNat 32 (i 0).val
  let c1_i32_81 : BitVec 32 := 1#32
  let v142 : BitVec 32 := Scalar.addi arg0 c1_i32_81
  let c0_i32_85 : BitVec 32 := 0#32
  let c0_i32_86 : BitVec 32 := 0#32
  ![v142.toNat, 0, 0]
def k0_off8 (i : grid0.Coords) : Fin 2 → Nat :=
  let arg0 : BitVec 32 := BitVec.ofNat 32 (i 0).val
  let c1_i32_79 : BitVec 32 := 1#32
  let v140 : BitVec 32 := Scalar.addi arg0 c1_i32_79
  let c2_i32_80 : BitVec 32 := 2#32
  let v141 : BitVec 32 := Scalar.remsi v140 c2_i32_80
  let c1_i32_88 : BitVec 32 := 1#32
  ![v141.toNat, 1]
def k0_off9 (i : grid0.Coords) : Fin 3 → Nat :=
  let arg0 : BitVec 32 := BitVec.ofNat 32 (i 0).val
  let c2_i32 : BitVec 32 := 2#32
  let v0 : BitVec 32 := Scalar.remsi arg0 c2_i32
  let v25 : Index := Scalar.indexCast v0
  let c0_15 : Index := 0#32
  let c0_16 : Index := 0#32
  ![v25.toNat, 0, 0]
def k0_off10 (i : grid0.Coords) : Fin 3 → Nat :=
  let arg0 : BitVec 32 := BitVec.ofNat 32 (i 0).val
  let c2_i32 : BitVec 32 := 2#32
  let v0 : BitVec 32 := Scalar.remsi arg0 c2_i32
  let v55 : Index := Scalar.indexCast v0
  let c512_32 : Index := 512#32
  let c0_33 : Index := 0#32
  ![v55.toNat, 512, 0]
def k0_off11 (i : grid0.Coords) : Fin 3 → Nat :=
  let arg0 : BitVec 32 := BitVec.ofNat 32 (i 0).val
  let c2_i32 : BitVec 32 := 2#32
  let v0 : BitVec 32 := Scalar.remsi arg0 c2_i32
  let v85 : Index := Scalar.indexCast v0
  let c1024_49 : Index := 1024#32
  let c0_50 : Index := 0#32
  ![v85.toNat, 1024, 0]
def k0_off12 (i : grid0.Coords) : Fin 3 → Nat :=
  let arg0 : BitVec 32 := BitVec.ofNat 32 (i 0).val
  let c2_i32 : BitVec 32 := 2#32
  let v0 : BitVec 32 := Scalar.remsi arg0 c2_i32
  let v115 : Index := Scalar.indexCast v0
  let c1536_66 : Index := 1536#32
  let c0_67 : Index := 0#32
  ![v115.toNat, 1536, 0]
def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S1x2048x64 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S1x2048x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2048x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== KernelIdeal.lean ====
variable {F : FTy → Type} [FloatOps F] [Named F]
def κ : String → Option EReal := fun
  | "mask" => some ⊥
  | _ => none
-- ==== ReferenceIdeal.lean ====
abbrev S16x2048x64 : Shape := ⟨3, ![16, 2048, 64]⟩
abbrev S131072 : Shape := ⟨1, ![131072]⟩
abbrev S2048 : Shape := ⟨1, ![2048]⟩
abbrev S2049 : Shape := ⟨1, ![2049]⟩
abbrev S1 : Shape := ⟨1, ![1]⟩
abbrev S2048x64 : Shape := ⟨2, ![2048, 64]⟩
abbrev S_ : Shape := ⟨0, ![]⟩
abbrev S2048x64x1 : Shape := ⟨3, ![2048, 64, 1]⟩
abbrev S1x1x1 : Shape := ⟨3, ![1, 1, 1]⟩
abbrev S16x2048x64x64 : Shape := ⟨4, ![16, 2048, 64, 64]⟩
abbrev S16x2048 : Shape := ⟨2, ![16, 2048]⟩
abbrev S16x2048x1 : Shape := ⟨3, ![16, 2048, 1]⟩

abbrev nBuf : Space → Nat
  | .hbm => 71
  | .vmem => 0
  | .smem => 0
  | _ => 0

abbrev bufTy : (tb : Table) → Fin (tcTables nBuf tb) → BufTy
  | .hbm, ⟨0, _⟩ => ⟨S16x2048x64, .f32⟩
  | .hbm, ⟨1, _⟩ => ⟨S16x2048x64, .f32⟩
  | .hbm, ⟨2, _⟩ => ⟨S16x2048x64, .f32⟩
  | .hbm, ⟨3, _⟩ => ⟨S131072, .f32⟩
  | .hbm, ⟨4, _⟩ => ⟨S2048, .i32⟩
  | .hbm, ⟨5, _⟩ => ⟨S2049, .i32⟩
  | .hbm, ⟨6, _⟩ => ⟨S131072, .i32⟩
  | .hbm, ⟨7, _⟩ => ⟨S1, .i32⟩
  | .hbm, ⟨8, _⟩ => ⟨S2048x64, .i32⟩
  | .hbm, ⟨9, _⟩ => ⟨S_, .i32⟩
  | .hbm, ⟨10, _⟩ => ⟨S2048x64, .i32⟩
  | .hbm, ⟨11, _⟩ => ⟨S2048x64, .i1⟩
  | .hbm, ⟨12, _⟩ => ⟨S_, .i32⟩
  | .hbm, ⟨13, _⟩ => ⟨S2048x64, .i32⟩
  | .hbm, ⟨14, _⟩ => ⟨S2048x64, .i32⟩
  | .hbm, ⟨15, _⟩ => ⟨S2048x64, .i32⟩
  | .hbm, ⟨16, _⟩ => ⟨S2048x64x1, .i32⟩
  | .hbm, ⟨17, _⟩ => ⟨S1, .i32⟩
  | .hbm, ⟨18, _⟩ => ⟨S_, .i32⟩
  | .hbm, ⟨19, _⟩ => ⟨S2048x64x1, .i32⟩
  | .hbm, ⟨20, _⟩ => ⟨S2048x64x1, .i1⟩
  | .hbm, ⟨21, _⟩ => ⟨S1x1x1, .i32⟩
  | .hbm, ⟨22, _⟩ => ⟨S2048x64x1, .i32⟩
  | .hbm, ⟨23, _⟩ => ⟨S2048x64x1, .i1⟩
  | .hbm, ⟨24, _⟩ => ⟨S2048x64x1, .i1⟩
  | .hbm, ⟨25, _⟩ => ⟨S_, .i1⟩
  | .hbm, ⟨26, _⟩ => ⟨S2048x64, .i1⟩
  | .hbm, ⟨27, _⟩ => ⟨S16x2048x64x64, .f32⟩
  | .hbm, ⟨28, _⟩ => ⟨S16x2048x64x64, .i1⟩
  | .hbm, ⟨29, _⟩ => ⟨S_, .f32⟩
  | .hbm, ⟨30, _⟩ => ⟨S16x2048x64x64, .f32⟩
  | .hbm, ⟨31, _⟩ => ⟨S16x2048x64x64, .f32⟩
  | .hbm, ⟨32, _⟩ => ⟨S16x2048x64, .f32⟩
  | .hbm, ⟨33, _⟩ => ⟨S_, .f32⟩
  | .hbm, ⟨34, _⟩ => ⟨S16x2048, .f32⟩
  | .hbm, ⟨35, _⟩ => ⟨S_, .f32⟩
  | .hbm, ⟨36, _⟩ => ⟨S16x2048, .f32⟩
  | .hbm, ⟨37, _⟩ => ⟨S16x2048, .f32⟩
  | .hbm, ⟨38, _⟩ => ⟨S16x2048x1, .f32⟩
  | .hbm, ⟨39, _⟩ => ⟨S16x2048x64, .f32⟩
  | .hbm, ⟨40, _⟩ => ⟨S16x2048x64, .f32⟩
  | .hbm, ⟨41, _⟩ => ⟨S16x2048x64, .f32⟩
  | .hbm, ⟨42, _⟩ => ⟨S_, .f32⟩
  | .hbm, ⟨43, _⟩ => ⟨S16x2048, .f32⟩
  | .hbm, ⟨44, _⟩ => ⟨S16x2048x1, .f32⟩
  | .hbm, ⟨45, _⟩ => ⟨S16x2048x64, .f32⟩
  | .hbm, ⟨46, _⟩ => ⟨S16x2048x64, .f32⟩
  | .hbm, ⟨47, _⟩ => ⟨S_, .i32⟩
  | .hbm, ⟨48, _⟩ => ⟨S2048x64, .i32⟩
  | .hbm, ⟨49, _⟩ => ⟨S2048x64, .i1⟩
  | .hbm, ⟨50, _⟩ => ⟨S_, .i32⟩
  | .hbm, ⟨51, _⟩ => ⟨S2048x64, .i32⟩
  | .hbm, ⟨52, _⟩ => ⟨S2048x64, .i32⟩
  | .hbm, ⟨53, _⟩ => ⟨S2048x64, .i32⟩
  | .hbm, ⟨54, _⟩ => ⟨S2048x64x1, .i32⟩
  | .hbm, ⟨55, _⟩ => ⟨S1, .i32⟩
  | .hbm, ⟨56, _⟩ => ⟨S_, .i32⟩
  | .hbm, ⟨57, _⟩ => ⟨S2048x64x1, .i32⟩
  | .hbm, ⟨58, _⟩ => ⟨S2048x64x1, .i1⟩
  | .hbm, ⟨59, _⟩ => ⟨S1x1x1, .i32⟩
  | .hbm, ⟨60, _⟩ => ⟨S2048x64x1, .i32⟩
  | .hbm, ⟨61, _⟩ => ⟨S2048x64x1, .i1⟩
  | .hbm, ⟨62, _⟩ => ⟨S2048x64x1, .i1⟩
  | .hbm, ⟨63, _⟩ => ⟨S_, .i1⟩
  | .hbm, ⟨64, _⟩ => ⟨S2048x64, .i1⟩
  | .hbm, ⟨65, _⟩ => ⟨S16x2048x64x64, .f32⟩
  | .hbm, ⟨66, _⟩ => ⟨S16x2048x64x64, .i1⟩
  | .hbm, ⟨67, _⟩ => ⟨S_, .f32⟩
  | .hbm, ⟨68, _⟩ => ⟨S16x2048x64x64, .f32⟩
  | .hbm, ⟨69, _⟩ => ⟨S16x2048x64x64, .f32⟩
  | .hbm, ⟨70, _⟩ => ⟨S16x2048x64, .f32⟩
  | _, _ => ⟨S16x2048x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_v14 : Ref sig .tc := ⟨.hbm, 28, rfl⟩
abbrev main_call0_cst : Ref sig .tc := ⟨.hbm, 29, rfl⟩
abbrev main_call0_v15 : Ref sig .tc := ⟨.hbm, 30, rfl⟩
abbrev main_v1 : Ref sig .tc := ⟨.hbm, 31, rfl⟩
abbrev main_v2 : Ref sig .tc := ⟨.hbm, 32, rfl⟩
abbrev main_cst : Ref sig .tc := ⟨.hbm, 33, rfl⟩
abbrev main_v3 : Ref sig .tc := ⟨.hbm, 34, rfl⟩
abbrev main_cst_0 : Ref sig .tc := ⟨.hbm, 35, rfl⟩
abbrev main_v4 : Ref sig .tc := ⟨.hbm, 36, rfl⟩
abbrev main_v5 : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_v9 : Ref sig .tc := ⟨.hbm, 41, rfl⟩
abbrev main_cst_1 : Ref sig .tc := ⟨.hbm, 42, rfl⟩
abbrev main_v10 : Ref sig .tc := ⟨.hbm, 43, rfl⟩
abbrev main_v11 : Ref sig .tc := ⟨.hbm, 44, rfl⟩
abbrev main_v12 : Ref sig .tc := ⟨.hbm, 45, rfl⟩
abbrev main_v13 : Ref sig .tc := ⟨.hbm, 46, rfl⟩
abbrev main_call1_c : Ref sig .tc := ⟨.hbm, 47, rfl⟩
abbrev main_call1_v0 : Ref sig .tc := ⟨.hbm, 48, rfl⟩
abbrev main_call1_v1 : Ref sig .tc := ⟨.hbm, 49, rfl⟩
abbrev main_call1_c_0 : Ref sig .tc := ⟨.hbm, 50, rfl⟩
abbrev main_call1_v2 : Ref sig .tc := ⟨.hbm, 51, rfl⟩
abbrev main_call1_v3 : Ref sig .tc := ⟨.hbm, 52, rfl⟩
abbrev main_call1_v4 : Ref sig .tc := ⟨.hbm, 53, rfl⟩
abbrev main_call1_v5 : Ref sig .tc := ⟨.hbm, 54, rfl⟩
abbrev main_call1_c_1 : Ref sig .tc := ⟨.hbm, 55, rfl⟩
abbrev main_call1_c_2 : Ref sig .tc := ⟨.hbm, 56, rfl⟩
abbrev main_call1_v6 : Ref sig .tc := ⟨.hbm, 57, rfl⟩
abbrev main_call1_v7 : Ref sig .tc := ⟨.hbm, 58, rfl⟩
abbrev main_call1_v8 : Ref sig .tc := ⟨.hbm, 59, rfl⟩
abbrev main_call1_v9 : Ref sig .tc := ⟨.hbm, 60, rfl⟩
abbrev main_call1_v10 : Ref sig .tc := ⟨.hbm, 61, rfl⟩
abbrev main_call1_v11 : Ref sig .tc := ⟨.hbm, 62, rfl⟩
abbrev main_call1_c_3 : Ref sig .tc := ⟨.hbm, 63, rfl⟩
abbrev main_call1_v12 : Ref sig .tc := ⟨.hbm, 64, rfl⟩
abbrev main_call1_v13 : Ref sig .tc := ⟨.hbm, 65, rfl⟩
abbrev main_call1_v14 : Ref sig .tc := ⟨.hbm, 66, rfl⟩
abbrev main_call1_cst : Ref sig .tc := ⟨.hbm, 67, rfl⟩
abbrev main_call1_v15 : Ref sig .tc := ⟨.hbm, 68, rfl⟩
abbrev main_v14 : Ref sig .tc := ⟨.hbm, 69, rfl⟩
abbrev main_v15 : Ref sig .tc := ⟨.hbm, 70, rfl⟩

abbrev nD : Nat := 1
abbrev τ : Topo := Topo.v7x

variable {F : FTy → Type} [FloatOps F]
-- ==== Proof.KernelIdeal.Slots.lean ====
/- The two double buffers of the kernel (`k_buf` and `v_buf`), piece by piece.

   Each buffer has two slots; slot `s` is 2176 rows, of which rows 32 … 2079 receive a block of the operand and the
   others (the pads) hold zero. A slot is held as two disjoint pieces, its data rows and its pads, except while the
   body reads windows of it, when the two are held as one. -/
module

public import proofs.«01_k».proof.Proof.Gen.KernelIdeal.Launch
public import proofs.«01_k».proof.Proof.Gen.KernelIdeal.Skeleton
public import proofs.«01_k».proof.Proof.Gen.KernelIdeal.Points
public import proofs.«01_k».proof.Proof.Gen.KernelIdeal.Frame
public import Idealize.ShloMosaic.Lib.Pipeline.FrameBody
public import Idealize.ShloMosaic.Lib.Ring
public import Idealize.ShloMosaic.Lib.Tactic
public import Idealize.ShloMosaic.Lib.WordCmp
public import Idealize.ShloMosaic.Lib.ValueIdxCore
public import Idealize.ShloMosaic.Lib.ViewIndex

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix3)

variable {F : FTy → Type} [FloatOps F] [Named F]

local notation "𝕄" => MT nD τ sig Unit (Elt F) ℕ (Pipeline.UD sig nD τ) ℕ

/-! ## The branch conditions over the sixteen points -/

/-- The body is at the first point. -/
abbrev isFirst (i : grid0.Coords) : Prop :=
  (Scalar.cmpi .ne (Scalar.extui (Scalar.cmpi .eq (BitVec.ofNat 32 (i 0).val) 0#32)) 0#32) = 1#1
/-- There is a next point to prefetch for. -/
abbrev hasNext (i : grid0.Coords) : Prop := k0_cond2 i = 1#1

theorem isFirst_iff : ∀ t : Fin grid0.N, isFirst (grid0.coords t) ↔ t.val = 0 := by decide +kernel
theorem hasNext_iff : ∀ t : Fin grid0.N, hasNext (grid0.coords t) ↔ t.val < 15 := by decide +kernel

instance : NeZero grid0.N := ⟨by rw [N_0]; decide⟩

/-! ## The memrefs -/

abbrev biasM : Memref sig .tc .vmem S4x512x640 .f32 := Memref.whole cc0_scratch0
abbrev kB : Memref sig .tc .vmem S2x2176x64 .f32 := Memref.whole cc0_scratch1
abbrev vB : Memref sig .tc .vmem S2x2176x64 .f32 := Memref.whole cc0_scratch2
abbrev kA : Memref sig .tc .hbm S16x2048x64 .f32 := Memref.whole main_arg1
abbrev vA : Memref sig .tc .hbm S16x2048x64 .f32 := Memref.whole main_arg2

/-- The shape of a whole slot. -/
abbrev S1x2176x64 : Shape := ⟨3, ![1, 2176, 64]⟩

theorem inb_slot (s : Fin 2) : ∀ a, (![s.val, 0, 0] : Fin 3 → Nat) a + S1x2176x64.size a ≤ S2x2176x64.size a := by
  have := s.isLt; intro a; fin_cases a <;> simp <;> omega
theorem inb_rows (s : Fin 2) : ∀ a, (![s.val, 32, 0] : Fin 3 → Nat) a + S1x2048x64.size a ≤ S2x2176x64.size a := by
  have := s.isLt; intro a; fin_cases a <;> simp <;> omega
theorem inb_src (b : Fin 16) : ∀ a, (![b.val, 0, 0] : Fin 3 → Nat) a + S1x2048x64.size a ≤ S16x2048x64.size a := by
  have := b.isLt; intro a; fin_cases a <;> simp <;> omega
theorem inb_cell (s j : Fin 2) : ∀ a, (![s.val, j.val] : Fin 2 → Nat) a + S1x1.size a ≤ S2x2.size a := by
  have := s.isLt; have := j.isLt; intro a; fin_cases a <;> simp <;> omega

abbrev slotR (s : Fin 2) : Rect S2x2176x64 := Rect.unit (s := S2x2176x64) ![s.val, 0, 0] S1x2176x64.size (inb_slot s)
abbrev rowsR (s : Fin 2) : Rect S2x2176x64 := Rect.unit (s := S2x2176x64) ![s.val, 32, 0] S1x2048x64.size (inb_rows s)

/-- Slot `s` of the buffer `B`, whole. -/
def slotM (B : Memref sig .tc .vmem S2x2176x64 .f32) (s : Fin 2) : Memref sig .tc .vmem S1x2176x64 .f32 :=
  B.slice (slotR s) (fun _ => rfl)
/-- The data rows of slot `s`, as the transfers name their destination. -/
def rowsM (B : Memref sig .tc .vmem S2x2176x64 .f32) (s : Fin 2) : Memref sig .tc .vmem S2048x64 .f32 :=
  (B.slice (rowsR s) (fun _ => rfl)).squeeze S2048x64 squeezes_S1x2048x64_S2048x64
/-- Block `b` of the operand `A`, as the transfers name their source. -/
def srcM (A : Memref sig .tc .hbm S16x2048x64 .f32) (b : Fin 16) : Memref sig .tc .hbm S2048x64 .f32 :=
  (A.slice (Rect.unit (s := S16x2048x64) ![b.val, 0, 0] S1x2048x64.size (inb_src b)) (fun _ => rfl)).squeeze S2048x64
    squeezes_S1x2048x64_S2048x64
/-- The semaphore cell of slot `s` of stream `j` (0 for `k_buf`, 1 for `v_buf`). -/
def cellS (j s : Fin 2) : DmaSems sig S_ :=
  (cc0_scratch3.slice (Rect.unit (s := S2x2) ![s.val, j.val] S1x1.size (inb_cell s j))).squeeze S_ squeezes_S1x1_S_
abbrev cellL (j s : Fin 2) : SemLoc sig := SemLoc.dma (cellS j s).sem

theorem cellL_00 : cellL 0 0 = SemLoc.dma 5 := by decide
theorem cellL_01 : cellL 0 1 = SemLoc.dma 7 := by decide
theorem cellL_10 : cellL 1 0 = SemLoc.dma 6 := by decide
theorem cellL_11 : cellL 1 1 = SemLoc.dma 8 := by decide

/-- The contents of a memref's buffer on core `c`. -/
abbrev BufOf (c : Dev nD) {sp : Space} {S : Shape} {e : EltTy} (M : Memref sig .tc sp S e) : Type :=
  Buf (Elt F) (M.view.loc (c : Thread nD τ))

/-- The word zero a pad holds. -/
abbrev zeroE : Elt F .f32 := (Scalar.ofBits .f32 0x00000000#32 : F .f32)

/-! ## The pieces of one stream: buffer `B` filled from operand `A` on the cells of column `j` -/

section Stream
variable (c : Dev nD) (B : Memref sig .tc .vmem S2x2176x64 .f32) (A : Memref sig .tc .hbm S16x2048x64 .f32) (j : Fin 2)
  (W : BufOf (F := F) c A)

/-- The share of the operand a transfer into slot `s` borrows from. -/
abbrev shareOf (s : Fin 2) : PosShare TreeShare := if s.val = 0 then fullShare.left else fullShare.right

/-- The data rows of slot `s`, at `f`. -/
abbrev rowsP (s : Fin 2) (f : BufOf (F := F) c (rowsM B s)) : sProp 𝕄 :=
  (rowsM B s).view.loc (c : Thread nD τ) ↦[(rowsM B s).view.set]{fullShare} f
/-- The pads of slot `s`, at `f` (not unfolded: only what merges a slot looks inside). -/
def padsP (s : Fin 2) (f : BufOf (F := F) c B) : sProp 𝕄 :=
  B.view.loc (c : Thread nD τ) ↦[(B.view.setOn (slotR s).set) \ (B.view.setOn (rowsR s).set)]{fullShare} f
/-- Slot `s` in one piece, at `f`. -/
abbrev slotP (s : Fin 2) (f : BufOf (F := F) c (slotM B s)) : sProp 𝕄 :=
  (slotM B s).view.loc (c : Thread nD τ) ↦[(slotM B s).view.set]{fullShare} f
abbrev cellP (s : Fin 2) : sProp 𝕄 := semVal ((c : Thread nD τ), cellL j s) 0
abbrev srcP (s : Fin 2) (b : Fin 16) : sProp 𝕄 :=
  (srcM A b).view.loc (c : Thread nD τ) ↦[(srcM A b).view.set]{shareOf s} W
/-- What is left of slot `s`'s share of the operand once block `b` is lent. -/
def restP (s : Fin 2) (b : Fin 16) : sProp 𝕄 :=
  A.view.loc (c : Thread nD τ) ↦[A.view.set \ A.view.setOn (Rect.unit (s := S16x2048x64) ![b.val, 0, 0] S1x2048x64.size (inb_src b)).set]{shareOf s} W
/-- Slot `s`'s share of the operand, whole. -/
abbrev shareP (s : Fin 2) : sProp 𝕄 := A.view.loc (c : Thread nD τ) ↦[A.view.set]{shareOf s} W
/-- The data rows once block `b` has landed in them. -/
abbrev landed (s : Fin 2) (b : Fin 16) (f : BufOf (F := F) c (rowsM B s)) : BufOf (F := F) c (rowsM B s) :=
  (rowsM B s).view.writes (Elt F) f [⟨Rect.whole S2048x64, ReadAs.same.apply ((srcM A b).view.read (Elt F) W)⟩]
/-- The transfer of block `b` into slot `s`, under way. -/
abbrev flightP (s : Fin 2) (b : Fin 16) (f : BufOf (F := F) c (rowsM B s)) : sProp 𝕄 :=
  Transfers.Flight countersEmb (c : Thread nD τ) (cellL j s) default ((rowsM B s).view.amount (cellL j s))
    iprop(rowsP c B s (landed c B A W s b f) ∗ srcP c A W s b)

/-- Slot `s` expecting block `b`. -/
def busy (z : BufOf (F := F) c B) (s : Fin 2) (b : Fin 16) : sProp 𝕄 :=
  iprop((∃ f, flightP c B A j W s b f) ∗ restP c A W s b ∗ padsP c B s z)
/-- Slot `s` with nothing under way. -/
def idle (z : BufOf (F := F) c B) (s : Fin 2) : sProp 𝕄 :=
  iprop(cellP (F := F) c j s ∗ (∃ f, rowsP c B s f) ∗ shareP c A W s ∗ padsP c B s z)

theorem rowsR_subset (s : Fin 2) : (rowsR s).set ⊆ (slotR s).set := by
  intro x hx
  rw [Rect.mem_set_unit] at hx ⊢
  intro a
  have := hx a
  fin_cases a <;> simp [S1x2176x64, S1x2048x64] at this ⊢ <;> omega

theorem rowsM_set (s : Fin 2) : (rowsM B s).view.set = B.view.setOn (rowsR s).set := by
  simp only [rowsM, Memref.view_squeeze, View.set_reshape]; exact View.set_slice _ _
theorem slotM_set (s : Fin 2) : (slotM B s).view.set = B.view.setOn (slotR s).set := View.set_slice _ _
theorem srcM_set (b : Fin 16) : (srcM A b).view.set = A.view.setOn (Rect.unit (s := S16x2048x64) ![b.val, 0, 0] S1x2048x64.size (inb_src b)).set := by
  simp only [srcM, Memref.view_squeeze, View.set_reshape]; exact View.set_slice _ _

/-- A share of the operand is a block of it and the rest. -/
theorem share_split (s : Fin 2) (b : Fin 16) : shareP (F := F) c A W s ⊣⊢ iprop(srcP c A W s b ∗ restP c A W s b) := by
  unfold restP srcP; rw [srcM_set]
  exact pointsTo_split_subset (View.setOn_subset_set _ _)

/-- A slot at `g` is its data rows at `g` and its pads at `g`. -/
theorem slot_split (s : Fin 2) (g : BufOf (F := F) c B) :
    slotP (F := F) c B s g ⊣⊢ iprop(rowsP c B s g ∗ padsP c B s g) := by
  unfold slotP rowsP padsP; rw [rowsM_set, slotM_set]
  exact pointsTo_split_subset (Finset.map_subset_map.2 (rowsR_subset s))

/-- Data rows and pads that agree with `g` are the slot at `g`. -/
theorem slot_merge (s : Fin 2) (f : BufOf (F := F) c (rowsM B s)) (z g : BufOf (F := F) c B)
    (hf : ∀ i ∈ (rowsM B s).view.set, f i = (g : BufOf (F := F) c (rowsM B s)) i)
    (hz : ∀ i ∈ (B.view.setOn (slotR s).set) \ (B.view.setOn (rowsR s).set), z i = g i) :
    iprop(rowsP c B s f ∗ padsP c B s z) ⊢ (slotP (F := F) c B s g : sProp 𝕄) := by
  refine BIBase.Entails.trans ?_ (slot_split c B s g).2
  unfold padsP
  rw [pointsTo_congr hz]
  unfold rowsP
  rw [pointsTo_congr hf]

end Stream

/-! ## What a slot holds: block `b` of the operand in rows 32 … 2079, zero in the others -/

/-- Slot contents as a function of the operand and the block. -/
def slotVal (x : Vec F S16x2048x64 .f32) (b : Fin 16) : Vec F S2x2176x64 .f32 := fun i =>
  if h : 32 ≤ (i 1).val ∧ (i 1).val < 2080 then
    x (ix3 b (⟨(i 1).val - 32, by have := h.2; omega⟩ : Fin 2048) (i 2))
  else zeroE

section Contents
variable (c : Dev nD) (B : Memref sig .tc .vmem S2x2176x64 .f32) (A : Memref sig .tc .hbm S16x2048x64 .f32)
  (W : BufOf (F := F) c A)

/-- Data rows a block landed in agree with the slot's contents. -/
theorem landed_eq (s : Fin 2) (b : Fin 16) (f : BufOf (F := F) c (rowsM B s)) (g : BufOf (F := F) c B)
    (hg : B.view.read (Elt F) g = slotVal (A.view.read (Elt F) W) b) :
    ∀ i ∈ (rowsM B s).view.set, landed c B A W s b f i = (g : BufOf (F := F) c (rowsM B s)) i := by
  intro i hi
  obtain ⟨x, -, rfl⟩ := Finset.mem_map.1 hi
  apply View.eq_of_read_eq (v := (rowsM B s).view)
  rw [View.read_writes_whole]
  generalize hz : Shape.reshapeEquiv (squeezes_S1x2048x64_S2048x64).numel_eq x = z
  have hr : (rowsM B s).view.read (Elt F) (g : BufOf (F := F) c (rowsM B s)) x = B.view.read (Elt F) g ((rowsR s).emb z) := by
    subst hz; rfl
  have hl : (srcM A b).view.read (Elt F) W x
      = A.view.read (Elt F) W ((Rect.unit (s := S16x2048x64) ![b.val, 0, 0] S1x2048x64.size (inb_src b)).emb z) := by
    subst hz; rfl
  rw [hr, hg]
  refine Eq.trans hl ?_
  have h1 : (z 1).val < 2048 := (z 1).isLt
  have h0 : (z 0).val < 1 := (z 0).isLt
  unfold slotVal
  have e1 : ((rowsR s).emb z 1).val = 32 + (z 1).val := by simp [Rect.emb_apply]
  rw [dif_pos ⟨by omega, by omega⟩]
  congr 1
  funext a
  apply Fin.ext
  match a with
  | ⟨0, _⟩ => simp [Rect.emb_apply]; omega
  | ⟨1, _⟩ => simp [Rect.emb_apply]
  | ⟨2, _⟩ => simp [Rect.emb_apply]

/-- Zero pads agree with the slot's contents. -/
theorem pads_eq (s : Fin 2) (b : Fin 16) (x : Vec F S16x2048x64 .f32) (z g : BufOf (F := F) c B)
    (hz : B.view.read (Elt F) z = fun _ => zeroE)
    (hg : B.view.read (Elt F) g = slotVal x b) :
    ∀ i ∈ (B.view.setOn (slotR s).set) \ (B.view.setOn (rowsR s).set), z i = g i := by
  intro i hi
  rw [Finset.mem_sdiff] at hi
  obtain ⟨y, hy, rfl⟩ := Finset.mem_map.1 hi.1
  have hn : y ∉ (rowsR s).set := fun h => hi.2 ((View.mem_setOn _).2 h)
  apply View.eq_of_read_eq (v := B.view)
  rw [hz, hg]
  unfold slotVal
  rw [dif_neg]
  intro h
  refine hn ?_
  rw [Rect.mem_set_unit] at hy ⊢
  intro a
  have := hy a
  match a with
  | ⟨0, _⟩ => simpa using this
  | ⟨1, _⟩ => simp; omega
  | ⟨2, _⟩ => simpa using this

end Contents

/-- Once block `b` has landed in slot `s` of `k_buf`, the slot holds that block between zero pads. -/
theorem k_full (c : Dev nD) (kx : BufOf (F := F) c kA) (s : Fin 2) (b : Fin 16) (f : BufOf (F := F) c (rowsM kB s)) :
    iprop(rowsP c kB s (landed c kB kA kx s b f) ∗ padsP c kB s (fun _ => zeroE)) ⊢ (slotP (F := F) c kB s (slotVal kx b) : sProp 𝕄) :=
  slot_merge c kB s _ _ (slotVal kx b) (landed_eq c kB kA kx s b f (slotVal kx b) rfl)
    (pads_eq c kB s b kx (fun _ => zeroE) (slotVal kx b) rfl rfl)
/-- The same of `v_buf`. -/
theorem v_full (c : Dev nD) (vx : BufOf (F := F) c vA) (s : Fin 2) (b : Fin 16) (f : BufOf (F := F) c (rowsM vB s)) :
    iprop(rowsP c vB s (landed c vB vA vx s b f) ∗ padsP c vB s (fun _ => zeroE)) ⊢ (slotP (F := F) c vB s (slotVal vx b) : sProp 𝕄) :=
  slot_merge c vB s _ _ (slotVal vx b) (landed_eq c vB vA vx s b f (slotVal vx b) rfl)
    (pads_eq c vB s b vx (fun _ => zeroE) (slotVal vx b) rfl rfl)

/-- A slot that was read gives its data rows back, at something, and its pads at zero. -/
theorem slot_release (c : Dev nD) (B : Memref sig .tc .vmem S2x2176x64 .f32) (s : Fin 2) (x : Vec F S16x2048x64 .f32) (b : Fin 16)
    (z g : BufOf (F := F) c B) (hz : B.view.read (Elt F) z = fun _ => zeroE) (hg : B.view.read (Elt F) g = slotVal x b) :
    slotP (F := F) c B s g ⊢ (iprop((∃ f, rowsP c B s f) ∗ padsP c B s z) : sProp 𝕄) := by
  have e : padsP (F := F) c B s g = padsP c B s z := by
    unfold padsP; exact (pointsTo_congr (pads_eq c B s b x z g hz hg)).symm
  iintro H
  ihave H' := (slot_split c B s g).1 $$ H
  icases H' with ⟨Hr, Hp⟩
  isplitl [Hr]; · iexists _; iexact Hr
  iapply (BIBase.Entails.of_eq e)
  iexact Hp

/-! ## The buffer whole, as the first point finds it: the pads of both slots and each slot's data rows -/

abbrev lowR : Rect S2x2176x64 := Rect.unit (s := S2x2176x64) ![0, 0, 0] S2x32x64.size inb_S2x2176x64_S2x32x64_0_0_0
abbrev highR : Rect S2x2176x64 := Rect.unit (s := S2x2176x64) ![0, 2080, 0] S2x96x64.size inb_S2x2176x64_S2x96x64_0_2080_0
/-- The pads before the data rows, of both slots, as the first point's stores name them; -/
def lowM (B : Memref sig .tc .vmem S2x2176x64 .f32) : Memref sig .tc .vmem S2x32x64 .f32 := B.slice lowR (fun _ => rfl)
/-- and those after. -/
def highM (B : Memref sig .tc .vmem S2x2176x64 .f32) : Memref sig .tc .vmem S2x96x64 .f32 := B.slice highR (fun _ => rfl)

section Whole
variable (c : Dev nD) (B : Memref sig .tc .vmem S2x2176x64 .f32)

abbrev lowP (f : BufOf (F := F) c (lowM B)) : sProp 𝕄 := (lowM B).view.loc (c : Thread nD τ) ↦[(lowM B).view.set]{fullShare} f
abbrev highP (f : BufOf (F := F) c (highM B)) : sProp 𝕄 := (highM B).view.loc (c : Thread nD τ) ↦[(highM B).view.set]{fullShare} f

/-- A stream before the first point: both cells at rest, both shares of the operand, the buffer in its four pieces. -/
def fresh (A : Memref sig .tc .hbm S16x2048x64 .f32) (j : Fin 2) (W : BufOf (F := F) c A) (s s' : Fin 2) : sProp 𝕄 :=
  iprop(cellP c j s ∗ cellP c j s' ∗ shareP c A W s ∗ shareP c A W s'
    ∗ (∃ f, lowP c B f) ∗ (∃ f, highP c B f) ∗ (∃ f, rowsP c B s f) ∗ ∃ f, rowsP c B s' f)

theorem lowM_set : (lowM B).view.set = B.view.setOn lowR.set := View.set_slice _ _
theorem highM_set : (highM B).view.set = B.view.setOn highR.set := View.set_slice _ _

/-- The pads are those of the two slots. -/
theorem pads_union (s s' : Fin 2) (h : s ≠ s') :
    lowR.set ∪ highR.set = ((slotR s).set \ (rowsR s).set) ∪ ((slotR s').set \ (rowsR s').set) := by
  ext y
  have h0 : (y 0).val < 2 := (y 0).isLt
  have h1 : (y 1).val < 2176 := (y 1).isLt
  have h2 : (y 2).val < 64 := (y 2).isLt
  have hs := s.isLt; have hs' := s'.isLt; have hne : s.val ≠ s'.val := fun e => h (Fin.ext e)
  simp only [Finset.mem_union, Finset.mem_sdiff, Rect.mem_set_unit, Fin.forall_fin_succ, Fin.succ_zero_eq_one, Fin.succ_one_eq_two]
  simp
  omega

/-- The slots are all of the buffer, -/
theorem slots_union (s s' : Fin 2) (h : s ≠ s') : (slotR s).set ∪ (slotR s').set = Finset.univ := by
  ext y
  have h0 : (y 0).val < 2 := (y 0).isLt
  have h1 : (y 1).val < 2176 := (y 1).isLt
  have h2 : (y 2).val < 64 := (y 2).isLt
  have hs := s.isLt; have hs' := s'.isLt; have hne : s.val ≠ s'.val := fun e => h (Fin.ext e)
  simp only [Finset.mem_union, Rect.mem_set_unit, Fin.forall_fin_succ, Fin.succ_zero_eq_one, Fin.succ_one_eq_two]
  simp
  omega
/-- and have nothing in common; -/
theorem slots_disjoint (s s' : Fin 2) (h : s ≠ s') : Disjoint (slotR s).set (slotR s').set := by
  rw [Finset.disjoint_left]
  intro y hy hy'
  rw [Rect.mem_set_unit] at hy hy'
  have a := hy 0; have a' := hy' 0
  simp [S1x2176x64] at a a'
  exact h (Fin.ext (by omega))
/-- nor have the two groups of pads. -/
theorem low_high_disjoint : Disjoint lowR.set highR.set := by
  rw [Finset.disjoint_left]
  intro y hy hy'
  rw [Rect.mem_set_unit] at hy hy'
  have a := hy 1; have a' := hy' 1
  simp [S2x32x64, S2x96x64] at a a'
  omega

theorem padsP_eq (s : Fin 2) (z : BufOf (F := F) c B) :
    padsP (F := F) c B s z = (B.view.loc (c : Thread nD τ) ↦[B.view.setOn ((slotR s).set \ (rowsR s).set)]{fullShare} z : sProp 𝕄) := by
  unfold padsP View.setOn; rw [Finset.map_sdiff]

/-- Both groups of pads at `z` are the pads of the two slots at `z`. -/
theorem pads_regroup (s s' : Fin 2) (h : s ≠ s') (z : BufOf (F := F) c B) :
    iprop(lowP (F := F) c B z ∗ highP c B z) ⊣⊢ iprop(padsP c B s z ∗ padsP c B s' z) := by
  have e1 : iprop(lowP (F := F) c B z ∗ highP c B z)
      ⊣⊢ (B.view.loc (c : Thread nD τ) ↦[B.view.setOn (lowR.set ∪ highR.set)]{fullShare} z : sProp 𝕄) := by
    unfold lowP highP; rw [lowM_set, highM_set]; unfold View.setOn; rw [Finset.map_union]
    exact (pointsTo_union ((Finset.disjoint_map _).2 low_high_disjoint)).symm
  have e2 : iprop(padsP (F := F) c B s z ∗ padsP c B s' z)
      ⊣⊢ (B.view.loc (c : Thread nD τ) ↦[B.view.setOn (lowR.set ∪ highR.set)]{fullShare} z : sProp 𝕄) := by
    rw [pads_union s s' h, padsP_eq, padsP_eq]; unfold View.setOn; rw [Finset.map_union]
    exact (pointsTo_union ((Finset.disjoint_map _).2
      ((slots_disjoint s s' h).mono Finset.sdiff_subset Finset.sdiff_subset))).symm
  exact e1.trans e2.symm

/-- The buffer at `f` is its two slots at `f`. -/
theorem whole_split (hB : B.IsWhole) (s s' : Fin 2) (h : s ≠ s') (f : BufOf (F := F) c B) :
    (B.view.loc (c : Thread nD τ) ↦[B.view.set]{fullShare} f : sProp 𝕄) ⊣⊢ iprop(slotP c B s f ∗ slotP c B s' f) := by
  have e : B.view.set = B.view.setOn (slotR s).set ∪ B.view.setOn (slotR s').set := by
    unfold View.setOn; rw [← Finset.map_union, slots_union s s' h]; rfl
  unfold slotP; rw [slotM_set, slotM_set, e]
  exact pointsTo_union ((Finset.disjoint_map _).2 (slots_disjoint s s' h))

/-- What the first point takes the buffer apart into, -/
theorem whole_in (hB : B.IsWhole) (s s' : Fin 2) (h : s ≠ s') :
    iprop(∃ d, owns (c : Thread nD τ) B fullShare d)
      ⊢ (iprop((∃ f, lowP c B f) ∗ (∃ f, highP c B f) ∗ (∃ f, rowsP c B s f) ∗ ∃ f, rowsP c B s' f) : sProp 𝕄) := by
  unfold owns
  iintro ⟨%d, %f, -, H⟩
  ihave H' := (whole_split c B hB s s' h f).1 $$ H
  icases H' with ⟨Ha, Hb⟩
  ihave Ha' := (slot_split c B s f).1 $$ Ha
  icases Ha' with ⟨Hr, Hp⟩
  ihave Hb' := (slot_split c B s' f).1 $$ Hb
  icases Hb' with ⟨Hr', Hp'⟩
  ihave Hl := (pads_regroup c B s s' h f).2 $$ [Hp Hp']
  · isplitl [Hp]; · iexact Hp
    iexact Hp'
  icases Hl with ⟨Hl, Hh⟩
  isplitl [Hl]; · iexists _; iexact Hl
  isplitl [Hh]; · iexists _; iexact Hh
  isplitl [Hr]; · iexists _; iexact Hr
  iexists _; iexact Hr'

/-- Data rows and pads at anything are the slot at something. -/
theorem slot_join (s : Fin 2) (f g : BufOf (F := F) c B) :
    iprop(rowsP c B s f ∗ padsP c B s g) ⊢ (iprop(∃ e, slotP (F := F) c B s e) : sProp 𝕄) := by
  unfold slotP rowsP padsP; rw [rowsM_set, slotM_set]
  iintro H
  iexists _
  iapply (pointsTo_join_subset (Finset.map_subset_map.2 (rowsR_subset s)))
  iexact H

/-- and what the last leaves it whole from. -/
theorem whole_out (hB : B.IsWhole) (s s' : Fin 2) (h : s ≠ s') (z : BufOf (F := F) c B) :
    iprop(((∃ f, rowsP c B s f) ∗ padsP c B s z) ∗ ((∃ f, rowsP c B s' f) ∗ padsP c B s' z))
      ⊢ (iprop(∃ d, owns (c : Thread nD τ) B fullShare d) : sProp 𝕄) := by
  iintro ⟨⟨⟨%f, Hr⟩, Hp⟩, ⟨⟨%f', Hr'⟩, Hp'⟩⟩
  ihave Ha := (slot_join c B s f z) $$ [Hr Hp]
  · isplitl [Hr]; · iexact Hr
    iexact Hp
  ihave Hb := (slot_join c B s' f' z) $$ [Hr' Hp']
  · isplitl [Hr']; · iexact Hr'
    iexact Hp'
  icases Ha with ⟨%e, Ha⟩
  icases Hb with ⟨%e', Hb⟩
  have hset : B.view.set = B.view.setOn (slotR s).set ∪ B.view.setOn (slotR s').set := by
    unfold View.setOn; rw [← Finset.map_union, slots_union s s' h]; rfl
  have hj : iprop(slotP (F := F) c B s e ∗ slotP c B s' e') ⊢ (iprop(∃ w, B.view.loc (c : Thread nD τ) ↦[B.view.set]{fullShare} w) : sProp 𝕄) := by
    unfold slotP; rw [slotM_set, slotM_set, hset]
    iintro H
    iexists _
    iapply (pointsTo_join ((Finset.disjoint_map _).2 (slots_disjoint s s' h)))
    iexact H
  ihave Hc := hj $$ [Ha Hb]
  · isplitl [Ha]; · iexact Ha
    iexact Hb
  icases Hc with ⟨%w, Hc⟩
  unfold owns
  iexists _, _; isplitr; swap; · iexact Hc
  ipureintro; rfl

/-- A group of pads after a store of all of it reads what was stored. -/
theorem stored_read (r : Rect S2x2176x64) (hu : ∀ a, r.stride a = 1) (f : BufOf (F := F) c B)
    (p : Vec F r.shape .f32) :
    (B.slice r hu).view.read (Elt F) (B.view.writes (Elt F) f [⟨r, p⟩] : BufOf (F := F) c (B.slice r hu)) = p := by
  funext x
  exact View.read_writes_cons_emb (v := B.view) (Val := Elt F) (f := f) r p [] x

/-- Pads that read zero, both groups, are the pads of the two slots at zero. -/
theorem pads_zero (s s' : Fin 2) (h : s ≠ s') (f : BufOf (F := F) c (lowM B)) (g : BufOf (F := F) c (highM B)) (z : BufOf (F := F) c B)
    (hf : (lowM B).view.read (Elt F) f = (lowM B).view.read (Elt F) (z : BufOf (F := F) c (lowM B)))
    (hg : (highM B).view.read (Elt F) g = (highM B).view.read (Elt F) (z : BufOf (F := F) c (highM B))) :
    iprop(lowP (F := F) c B f ∗ highP c B g) ⊢ (iprop(padsP c B s z ∗ padsP c B s' z) : sProp 𝕄) := by
  have e1 : lowP (F := F) c B f = lowP c B z := pointsTo_congr fun i hi => by
    obtain ⟨x, -, rfl⟩ := Finset.mem_map.1 hi
    exact View.eq_of_read_eq (v := (lowM B).view) (congrFun hf x)
  have e2 : highP (F := F) c B g = highP c B z := pointsTo_congr fun i hi => by
    obtain ⟨x, -, rfl⟩ := Finset.mem_map.1 hi
    exact View.eq_of_read_eq (v := (highM B).view) (congrFun hg x)
  rw [e1, e2]
  exact (pads_regroup c B s s' h z).1

end Whole

/-! ## The program's names at a symbolic point

Offsets the body computes from the point, in closed form, and the memrefs and cells they name. -/

theorem slots_ne : ∀ t : Fin grid0.N, Ring.sl 2 t.val ≠ Ring.sl 2 (t.val + 1) := by decide +kernel
theorem off1_eq : ∀ t : Fin grid0.N, k0_off1 (grid0.coords t) = ![(Ring.sl 2 t.val).val, (0 : Fin 2).val] := by decide +kernel
theorem off2_eq : ∀ t : Fin grid0.N, k0_off2 (grid0.coords t) = ![(Ring.sl 2 t.val).val, 32, 0] := by decide +kernel
theorem off4_eq : ∀ t : Fin grid0.N, k0_off4 (grid0.coords t) = ![(Ring.sl 2 t.val).val, (1 : Fin 2).val] := by decide +kernel
theorem off5_eq : ∀ t : Fin grid0.N, k0_off5 (grid0.coords t) = ![(Ring.sl 2 (t.val + 1)).val, (0 : Fin 2).val] := by decide +kernel
theorem off6_eq : ∀ t : Fin grid0.N, k0_off6 (grid0.coords t) = ![(Ring.sl 2 (t.val + 1)).val, 32, 0] := by decide +kernel
theorem off7_eq : ∀ t : Fin grid0.N, hasNext (grid0.coords t) → k0_off7 (grid0.coords t) = ![(Ring.bk 16 (t.val + 1)).val, 0, 0] := by
  decide +kernel
theorem off8_eq : ∀ t : Fin grid0.N, k0_off8 (grid0.coords t) = ![(Ring.sl 2 (t.val + 1)).val, (1 : Fin 2).val] := by decide +kernel
theorem off9_eq : ∀ t : Fin grid0.N, k0_off9 (grid0.coords t) = ![(Ring.sl 2 t.val).val, 0, 0] := by decide +kernel
theorem off10_eq : ∀ t : Fin grid0.N, k0_off10 (grid0.coords t) = ![(Ring.sl 2 t.val).val, 512, 0] := by decide +kernel
theorem off11_eq : ∀ t : Fin grid0.N, k0_off11 (grid0.coords t) = ![(Ring.sl 2 t.val).val, 1024, 0] := by decide +kernel
theorem off12_eq : ∀ t : Fin grid0.N, k0_off12 (grid0.coords t) = ![(Ring.sl 2 t.val).val, 1536, 0] := by decide +kernel

theorem first_off_cellK : ∀ t : Fin grid0.N, isFirst (grid0.coords t) → (![0, 0] : Fin 2 → Nat) = ![(Ring.sl 2 t.val).val, (0 : Fin 2).val] := by
  decide +kernel
theorem first_off_cellV : ∀ t : Fin grid0.N, isFirst (grid0.coords t) → (![0, 1] : Fin 2 → Nat) = ![(Ring.sl 2 t.val).val, (1 : Fin 2).val] := by
  decide +kernel
theorem first_off_rows : ∀ t : Fin grid0.N, isFirst (grid0.coords t) → (![0, 32, 0] : Fin 3 → Nat) = ![(Ring.sl 2 t.val).val, 32, 0] := by
  decide +kernel
theorem first_off_src : ∀ t : Fin grid0.N, isFirst (grid0.coords t) → (![0, 0, 0] : Fin 3 → Nat) = ![(Ring.bk 16 t.val).val, 0, 0] := by
  decide +kernel

/-- Data rows named at offsets equal to those of slot `s`. -/
theorem rows_named (B : Memref sig .tc .vmem S2x2176x64 .f32) {o : Fin 3 → ℕ} (s : Fin 2) (h : o = ![s.val, 32, 0])
    (inb : ∀ a, o a + S1x2048x64.size a ≤ S2x2176x64.size a) :
    (B.slice (Rect.unit (s := S2x2176x64) o S1x2048x64.size inb) (fun _ => rfl)).squeeze S2048x64 squeezes_S1x2048x64_S2048x64
      = rowsM B s :=
  congrArg (fun M : Memref sig .tc .vmem S1x2048x64 .f32 => M.squeeze S2048x64 squeezes_S1x2048x64_S2048x64)
    (Memref.slice_unit_congr _ h _ _ (fun _ => rfl) (fun _ => rfl))
/-- A block of the operand named at offsets equal to those of block `b`. -/
theorem src_named (A : Memref sig .tc .hbm S16x2048x64 .f32) {o : Fin 3 → ℕ} (b : Fin 16) (h : o = ![b.val, 0, 0])
    (inb : ∀ a, o a + S1x2048x64.size a ≤ S16x2048x64.size a) :
    (A.slice (Rect.unit (s := S16x2048x64) o S1x2048x64.size inb) (fun _ => rfl)).squeeze S2048x64 squeezes_S1x2048x64_S2048x64
      = srcM A b :=
  congrArg (fun M : Memref sig .tc .hbm S1x2048x64 .f32 => M.squeeze S2048x64 squeezes_S1x2048x64_S2048x64)
    (Memref.slice_unit_congr _ h _ _ (fun _ => rfl) (fun _ => rfl))
/-- A cell named at offsets equal to those of slot `s` of stream `j`. -/
theorem cell_named {o : Fin 2 → ℕ} (j s : Fin 2) (h : o = ![s.val, j.val]) (inb : ∀ a, o a + S1x1.size a ≤ S2x2.size a) :
    (cc0_scratch3.slice (Rect.unit (s := S2x2) o S1x1.size inb)).squeeze S_ squeezes_S1x1_S_ = cellS j s :=
  congrArg (fun A : DmaSems sig S1x1 => A.squeeze S_ squeezes_S1x1_S_) (SemArray.slice_unit_congr _ h _ _)

@[sl_canon] theorem canon_wait_rowsK (t : Fin grid0.N) :
    (kB.slice (Rect.unit (s := S2x2176x64) (k0_off2 (grid0.coords t)) S1x2048x64.size (k0_off2_inb (grid0.coords t))) (fun _ => rfl)).squeeze
      S2048x64 squeezes_S1x2048x64_S2048x64 = rowsM kB (Ring.sl 2 t.val) := rows_named _ _ (off2_eq t) _
@[sl_canon] theorem canon_wait_rowsV (t : Fin grid0.N) :
    (vB.slice (Rect.unit (s := S2x2176x64) (k0_off2 (grid0.coords t)) S1x2048x64.size (k0_off2_inb (grid0.coords t))) (fun _ => rfl)).squeeze
      S2048x64 squeezes_S1x2048x64_S2048x64 = rowsM vB (Ring.sl 2 t.val) := rows_named _ _ (off2_eq t) _
@[sl_canon] theorem canon_wait_cellK (t : Fin grid0.N) :
    (cc0_scratch3.slice (Rect.unit (s := S2x2) (k0_off1 (grid0.coords t)) S1x1.size (k0_off1_inb (grid0.coords t)))).squeeze S_
      squeezes_S1x1_S_ = cellS 0 (Ring.sl 2 t.val) := cell_named _ _ (off1_eq t) _
@[sl_canon] theorem canon_wait_cellV (t : Fin grid0.N) :
    (cc0_scratch3.slice (Rect.unit (s := S2x2) (k0_off4 (grid0.coords t)) S1x1.size (k0_off4_inb (grid0.coords t)))).squeeze S_
      squeezes_S1x1_S_ = cellS 1 (Ring.sl 2 t.val) := cell_named _ _ (off4_eq t) _
@[sl_canon] theorem canon_next_rowsK (t : Fin grid0.N) (h : hasNext (grid0.coords t)) :
    (kB.slice (Rect.unit (s := S2x2176x64) (k0_off6 (grid0.coords t)) S1x2048x64.size (k0_off6_inb (grid0.coords t) h)) (fun _ => rfl)).squeeze
      S2048x64 squeezes_S1x2048x64_S2048x64 = rowsM kB (Ring.sl 2 (t.val + 1)) := rows_named _ _ (off6_eq t) _
@[sl_canon] theorem canon_next_rowsV (t : Fin grid0.N) (h : hasNext (grid0.coords t)) :
    (vB.slice (Rect.unit (s := S2x2176x64) (k0_off6 (grid0.coords t)) S1x2048x64.size (k0_off6_inb (grid0.coords t) h)) (fun _ => rfl)).squeeze
      S2048x64 squeezes_S1x2048x64_S2048x64 = rowsM vB (Ring.sl 2 (t.val + 1)) := rows_named _ _ (off6_eq t) _
@[sl_canon] theorem canon_next_cellK (t : Fin grid0.N) (h : hasNext (grid0.coords t)) :
    (cc0_scratch3.slice (Rect.unit (s := S2x2) (k0_off5 (grid0.coords t)) S1x1.size (k0_off5_inb (grid0.coords t) h))).squeeze S_
      squeezes_S1x1_S_ = cellS 0 (Ring.sl 2 (t.val + 1)) := cell_named _ _ (off5_eq t) _
@[sl_canon] theorem canon_next_cellV (t : Fin grid0.N) (h : hasNext (grid0.coords t)) :
    (cc0_scratch3.slice (Rect.unit (s := S2x2) (k0_off8 (grid0.coords t)) S1x1.size (k0_off8_inb (grid0.coords t) h))).squeeze S_
      squeezes_S1x1_S_ = cellS 1 (Ring.sl 2 (t.val + 1)) := cell_named _ _ (off8_eq t) _
@[sl_canon] theorem canon_next_srcK (t : Fin grid0.N) (h : hasNext (grid0.coords t)) :
    (kA.slice (Rect.unit (s := S16x2048x64) (k0_off7 (grid0.coords t)) S1x2048x64.size (k0_off7_inb (grid0.coords t) h)) (fun _ => rfl)).squeeze
      S2048x64 squeezes_S1x2048x64_S2048x64 = srcM kA (Ring.bk 16 (t.val + 1)) := src_named _ _ (off7_eq t h) _
@[sl_canon] theorem canon_next_srcV (t : Fin grid0.N) (h : hasNext (grid0.coords t)) :
    (vA.slice (Rect.unit (s := S16x2048x64) (k0_off7 (grid0.coords t)) S1x2048x64.size (k0_off7_inb (grid0.coords t) h)) (fun _ => rfl)).squeeze
      S2048x64 squeezes_S1x2048x64_S2048x64 = srcM vA (Ring.bk 16 (t.val + 1)) := src_named _ _ (off7_eq t h) _
@[sl_canon] theorem canon_first_rowsK (t : Fin grid0.N) (h : isFirst (grid0.coords t)) :
    (kB.slice (Rect.unit (s := S2x2176x64) ![0, 32, 0] S1x2048x64.size inb_S2x2176x64_S1x2048x64_0_32_0) (fun _ => rfl)).squeeze
      S2048x64 squeezes_S1x2048x64_S2048x64 = rowsM kB (Ring.sl 2 t.val) := rows_named _ _ (first_off_rows t h) _
@[sl_canon] theorem canon_first_rowsV (t : Fin grid0.N) (h : isFirst (grid0.coords t)) :
    (vB.slice (Rect.unit (s := S2x2176x64) ![0, 32, 0] S1x2048x64.size inb_S2x2176x64_S1x2048x64_0_32_0) (fun _ => rfl)).squeeze
      S2048x64 squeezes_S1x2048x64_S2048x64 = rowsM vB (Ring.sl 2 t.val) := rows_named _ _ (first_off_rows t h) _
@[sl_canon] theorem canon_first_cellK (t : Fin grid0.N) (h : isFirst (grid0.coords t)) :
    (cc0_scratch3.slice (Rect.unit (s := S2x2) ![0, 0] S1x1.size inb_S2x2_S1x1_0_0)).squeeze S_ squeezes_S1x1_S_
      = cellS 0 (Ring.sl 2 t.val) := cell_named _ _ (first_off_cellK t h) _
@[sl_canon] theorem canon_first_cellV (t : Fin grid0.N) (h : isFirst (grid0.coords t)) :
    (cc0_scratch3.slice (Rect.unit (s := S2x2) ![0, 1] S1x1.size inb_S2x2_S1x1_0_1)).squeeze S_ squeezes_S1x1_S_
      = cellS 1 (Ring.sl 2 t.val) := cell_named _ _ (first_off_cellV t h) _
@[sl_canon] theorem canon_first_srcK (t : Fin grid0.N) (h : isFirst (grid0.coords t)) :
    (kA.slice (Rect.unit (s := S16x2048x64) ![0, 0, 0] S1x2048x64.size inb_S16x2048x64_S1x2048x64_0_0_0) (fun _ => rfl)).squeeze
      S2048x64 squeezes_S1x2048x64_S2048x64 = srcM kA (Ring.bk 16 t.val) := src_named _ _ (first_off_src t h) _
@[sl_canon] theorem canon_first_srcV (t : Fin grid0.N) (h : isFirst (grid0.coords t)) :
    (vA.slice (Rect.unit (s := S16x2048x64) ![0, 0, 0] S1x2048x64.size inb_S16x2048x64_S1x2048x64_0_0_0) (fun _ => rfl)).squeeze
      S2048x64 squeezes_S1x2048x64_S2048x64 = srcM vA (Ring.bk 16 t.val) := src_named _ _ (first_off_src t h) _

instance (priority := high) closedOff9 (t : Fin grid0.N) : ClosedOff (k0_off9 (grid0.coords t)) := ⟨_, off9_eq t⟩
instance (priority := high) closedOff10 (t : Fin grid0.N) : ClosedOff (k0_off10 (grid0.coords t)) := ⟨_, off10_eq t⟩
instance (priority := high) closedOff11 (t : Fin grid0.N) : ClosedOff (k0_off11 (grid0.coords t)) := ⟨_, off11_eq t⟩
instance (priority := high) closedOff12 (t : Fin grid0.N) : ClosedOff (k0_off12 (grid0.coords t)) := ⟨_, off12_eq t⟩

end Cert.KernelIdeal.Band

end
-- ==== Proof.KernelIdeal.First.lean ====
/- The body at the first point: it zeroes the pads of both buffers, starts the transfers of its own blocks of `k` and `v`,
   waits for them, starts the next point's, fills the bias from the row starts, and computes four sub-blocks. -/
module

public import proofs.«01_k».proof.Proof.KernelIdeal.Slots

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

set_option maxHeartbeats 1000000 in
/-- The stores of the bias and of the output's block, last first, with the run that makes them. -/
def firstRun (c : Dev nD) (t : Fin grid0.N) (arg1 : Memref sig .tc .vmem S1x2048x64 .i32) (harg1 : arg1.IsWhole)
    (arg2 : Memref sig .tc .vmem S1x2048x64 .f32) (harg2 : arg2.IsWhole) (arg5 : Memref sig .tc .vmem S1x2048x64 .f32)
    (harg5 : arg5.IsWhole) (arg6 : Memref sig .tc .vmem S4x512x640 .f32) (harg6 : arg6.IsWhole)
    (hc0 : isFirst (grid0.coords t)) (hc1 : hasNext (grid0.coords t))
    (x0 : Vec F S1x2048x64 .i32) (x1 : Vec F S1x2048x64 .f32)
    (kx : BufOf (F := F) c kA) (vx : BufOf (F := F) c vA) :
    { L : List (View.Piece (Elt F) S4x512x640 .f32) × List (View.Piece (Elt F) S1x2048x64 .f32) //
      ∀ (W : Waits sig Unit) (K : PUnit → sProp 𝕄),
        iprop(owns (c : Thread nD τ) arg1 fullShare x0 ∗ owns (c : Thread nD τ) arg2 fullShare x1
            ∗ (∃ d, owns (c : Thread nD τ) arg5 fullShare d) ∗ (∃ d, owns (c : Thread nD τ) arg6 fullShare d)
            ∗ fresh c kB kA 0 kx (Ring.sl 2 t.val) (Ring.sl 2 (t.val + 1))
            ∗ fresh c vB vA 1 vx (Ring.sl 2 t.val) (Ring.sl 2 (t.val + 1))
            ∗ owes (c : Thread nD τ) 0 W
            ∗ (iprop(owns (c : Thread nD τ) arg1 fullShare x0 ∗ owns (c : Thread nD τ) arg2 fullShare x1
                ∗ (∃ f, arg5.view.loc (c : Thread nD τ) ↦[arg5.view.set]{fullShare} arg5.view.writes (Elt F) f L.2)
                ∗ (∃ f, arg6.view.loc (c : Thread nD τ) ↦[arg6.view.set]{fullShare} arg6.view.writes (Elt F) f L.1)
                ∗ busy c kB kA 0 kx (fun _ => zeroE) (Ring.sl 2 (t.val + 1)) (Ring.bk 16 (t.val + 1)) ∗ idle c kB kA 0 kx (fun _ => zeroE) (Ring.sl 2 t.val)
                ∗ busy c vB vA 1 vx (fun _ => zeroE) (Ring.sl 2 (t.val + 1)) (Ring.bk 16 (t.val + 1)) ∗ idle c vB vA 1 vx (fun _ => zeroE) (Ring.sl 2 t.val)
                ∗ (∃ W', owes (c : Thread nD τ) 0 W')) -∗ K ⟨⟩))
          ⊢ wp frame (wpE (defs₀ (F := F)) Variants.none c none) Set.univ
              (cc0__attn_kernel (grid0.coords t) arg1 harg1 arg2 harg2 (Memref.whole main_arg1) (Memref.isWhole_whole _)
                (Memref.whole main_arg2) (Memref.isWhole_whole _) arg5 harg5 arg6 harg6 kB (Memref.isWhole_whole _)
                vB (Memref.isWhole_whole _) cc0_scratch3) K } := by
  refine ⟨(?_, ?_), fun W K => ?run⟩
  case run =>
    haveI : Fact (isFirst (grid0.coords t)) := ⟨hc0⟩
    haveI : Fact (hasNext (grid0.coords t)) := ⟨hc1⟩
    simp only [cc0__attn_kernel_eq_skeleton]; unfold cc0__attn_kernel_skel
    simp only [k0_part1_eq_skeleton, k0_part2_eq_skeleton, k0_part3_eq_skeleton, k0_part4_eq_skeleton, k0_part5_eq_skeleton]
    unfold owns fresh lowP highP lowM highM
    iintro ⟨⟨%f0, %hf0, H0⟩, ⟨%f1, %hf1, H1⟩, ⟨%d2, %f2, -, H2⟩, ⟨%d6, %f6, -, H6⟩,
      ⟨Hck, Hck', Hwk0, Hwk, ⟨%lk, Hlk⟩, ⟨%hk, Hhk⟩, ⟨%gk0, Hsk0⟩, ⟨%gk, Hsk⟩⟩,
      ⟨Hcv, Hcv', Hwv0, Hwv, ⟨%lv, Hlv⟩, ⟨%hv, Hhv⟩, ⟨%gv0, Hsv0⟩, ⟨%gv, Hsv⟩⟩, HW, Hk⟩
    ihave Hwk0' := (share_split c kA kx (Ring.sl 2 t.val) (Ring.bk 16 t.val)).1 $$ Hwk0
    icases Hwk0' with ⟨Hak0, Hbk0⟩
    ihave Hwv0' := (share_split c vA vx (Ring.sl 2 t.val) (Ring.bk 16 t.val)).1 $$ Hwv0
    icases Hwv0' with ⟨Hav0, Hbv0⟩
    ihave Hwk' := (share_split c kA kx (Ring.sl 2 (t.val + 1)) (Ring.bk 16 (t.val + 1))).1 $$ Hwk
    icases Hwk' with ⟨Hak, Hbk⟩
    ihave Hwv' := (share_split c vA vx (Ring.sl 2 (t.val + 1)) (Ring.bk 16 (t.val + 1))).1 $$ Hwv
    icases Hwv' with ⟨Hav, Hbv⟩
    obtain rfl := harg1.eq_unread hf0; obtain rfl := harg2.eq_unread hf1
    sl_exec (disch := first | sl_exact hc0 | sl_exact hc1)
    have hne : Ring.sl 2 t.val ≠ Ring.sl 2 (t.val + 1) := slots_ne t
    ihave Hpk := (pads_zero c kB (Ring.sl 2 t.val) (Ring.sl 2 (t.val + 1)) hne _ _ (fun _ => zeroE)
      (stored_read c kB lowR (fun _ => rfl) _ _) (stored_read c kB highR (fun _ => rfl) _ _)) $$ [Hlk Hhk]
    · isplitl [Hlk]; · iexact Hlk
      iexact Hhk
    icases Hpk with ⟨Hpk, Hqk⟩
    ihave Hpv := (pads_zero c vB (Ring.sl 2 t.val) (Ring.sl 2 (t.val + 1)) hne _ _ (fun _ => zeroE)
      (stored_read c vB lowR (fun _ => rfl) _ _) (stored_read c vB highR (fun _ => rfl) _ _)) $$ [Hlv Hhv]
    · isplitl [Hlv]; · iexact Hlv
      iexact Hhv
    icases Hpv with ⟨Hpv, Hqv⟩
    ihave Hk1 := (k_full c kx (Ring.sl 2 t.val) (Ring.bk 16 t.val) gk0) $$ [Hsk0 Hpk]
    · isplitl [Hsk0]; · iexact Hsk0
      iexact Hpk
    ihave Hv1 := (v_full c vx (Ring.sl 2 t.val) (Ring.bk 16 t.val) gv0) $$ [Hsv0 Hpv]
    · isplitl [Hsv0]; · iexact Hsv0
      iexact Hpv
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H6]; · iexists _; iexact H6
    unfold busy idle
    isplitl [Hck' Hbk Hqk]
    · isplitl [Hck']; · iexists _; iexact Hck'
      isplitl [Hbk]; · iexact Hbk
      iexact Hqk
    ihave Hk2 := (slot_release c kB (Ring.sl 2 t.val) kx (Ring.bk 16 t.val) (fun _ => zeroE) (slotVal kx (Ring.bk 16 t.val)) rfl rfl) $$ Hk1
    icases Hk2 with ⟨Hk3, Hk4⟩
    ihave Hv2 := (slot_release c vB (Ring.sl 2 t.val) vx (Ring.bk 16 t.val) (fun _ => zeroE) (slotVal vx (Ring.bk 16 t.val)) rfl rfl) $$ Hv1
    icases Hv2 with ⟨Hv3, Hv4⟩
    isplitl [Hck Hak0 Hbk0 Hk3 Hk4]
    · isplitl [Hck]; · iexact Hck
      isplitl [Hk3]; · iexact Hk3
      isplitl [Hak0 Hbk0]
      · iapply (share_split c kA kx (Ring.sl 2 t.val) (Ring.bk 16 t.val)).2; isplitl [Hak0]; · iexact Hak0
        iexact Hbk0
      iexact Hk4
    isplitl [Hcv' Hbv Hqv]
    · isplitl [Hcv']; · iexists _; iexact Hcv'
      isplitl [Hbv]; · iexact Hbv
      iexact Hqv
    isplitl [Hcv Hav0 Hbv0 Hv3 Hv4]
    · isplitl [Hcv]; · iexact Hcv
      isplitl [Hv3]; · iexact Hv3
      isplitl [Hav0 Hbv0]
      · iapply (share_split c vA vx (Ring.sl 2 t.val) (Ring.bk 16 t.val)).2; isplitl [Hav0]; · iexact Hav0
        iexact Hbv0
      iexact Hv4
    iexists _; iexact HW

end Cert.KernelIdeal.Band

end
-- ==== Proof.KernelIdeal.Middle.lean ====
/- The body at a point that is neither the first nor the last: it waits for its block of `k` and of `v`, starts the
   transfers of the next point's, and computes four sub-blocks of its output from the block it waited for. -/
module

public import proofs.«01_k».proof.Proof.KernelIdeal.Slots

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

set_option maxHeartbeats 1000000 in
/-- The stores of the output's block, last first, with the run that makes them. -/
def middleRun (c : Dev nD) (t : Fin grid0.N) (arg1 : Memref sig .tc .vmem S1x2048x64 .i32) (harg1 : arg1.IsWhole)
    (arg2 : Memref sig .tc .vmem S1x2048x64 .f32) (harg2 : arg2.IsWhole) (arg5 : Memref sig .tc .vmem S1x2048x64 .f32)
    (harg5 : arg5.IsWhole) (arg6 : Memref sig .tc .vmem S4x512x640 .f32) (harg6 : arg6.IsWhole)
    (hc0 : ¬isFirst (grid0.coords t)) (hc1 : hasNext (grid0.coords t))
    (x0 : Vec F S1x2048x64 .i32) (x1 : Vec F S1x2048x64 .f32) (bv : Vec F S4x512x640 .f32)
    (kx : BufOf (F := F) c kA) (vx : BufOf (F := F) c vA) :
    { L : List (View.Piece (Elt F) S1x2048x64 .f32) //
      ∀ (W : Waits sig Unit) (K : PUnit → sProp 𝕄),
        iprop(owns (c : Thread nD τ) arg1 fullShare x0 ∗ owns (c : Thread nD τ) arg2 fullShare x1
            ∗ (∃ d, owns (c : Thread nD τ) arg5 fullShare d) ∗ owns (c : Thread nD τ) arg6 fullShare bv
            ∗ busy c kB kA 0 kx (fun _ => zeroE) (Ring.sl 2 t.val) (Ring.bk 16 t.val) ∗ idle c kB kA 0 kx (fun _ => zeroE) (Ring.sl 2 (t.val + 1))
            ∗ busy c vB vA 1 vx (fun _ => zeroE) (Ring.sl 2 t.val) (Ring.bk 16 t.val) ∗ idle c vB vA 1 vx (fun _ => zeroE) (Ring.sl 2 (t.val + 1))
            ∗ owes (c : Thread nD τ) 0 W
            ∗ (iprop(owns (c : Thread nD τ) arg1 fullShare x0 ∗ owns (c : Thread nD τ) arg2 fullShare x1
                ∗ (∃ f, arg5.view.loc (c : Thread nD τ) ↦[arg5.view.set]{fullShare} arg5.view.writes (Elt F) f L)
                ∗ owns (c : Thread nD τ) arg6 fullShare bv
                ∗ busy c kB kA 0 kx (fun _ => zeroE) (Ring.sl 2 (t.val + 1)) (Ring.bk 16 (t.val + 1)) ∗ idle c kB kA 0 kx (fun _ => zeroE) (Ring.sl 2 t.val)
                ∗ busy c vB vA 1 vx (fun _ => zeroE) (Ring.sl 2 (t.val + 1)) (Ring.bk 16 (t.val + 1)) ∗ idle c vB vA 1 vx (fun _ => zeroE) (Ring.sl 2 t.val)
                ∗ (∃ W', owes (c : Thread nD τ) 0 W')) -∗ K ⟨⟩))
          ⊢ wp frame (wpE (defs₀ (F := F)) Variants.none c none) Set.univ
              (cc0__attn_kernel (grid0.coords t) arg1 harg1 arg2 harg2 (Memref.whole main_arg1) (Memref.isWhole_whole _)
                (Memref.whole main_arg2) (Memref.isWhole_whole _) arg5 harg5 arg6 harg6 kB (Memref.isWhole_whole _)
                vB (Memref.isWhole_whole _) cc0_scratch3) K } := by
  refine ⟨?_, fun W K => ?run⟩
  case run =>
    haveI : Fact (¬isFirst (grid0.coords t)) := ⟨hc0⟩
    haveI : Fact (hasNext (grid0.coords t)) := ⟨hc1⟩
    simp only [cc0__attn_kernel_eq_skeleton]; unfold cc0__attn_kernel_skel
    simp only [k0_part1_eq_skeleton, k0_part2_eq_skeleton, k0_part3_eq_skeleton, k0_part4_eq_skeleton, k0_part5_eq_skeleton]
    unfold owns busy idle
    iintro ⟨⟨%f0, %hf0, H0⟩, ⟨%f1, %hf1, H1⟩, ⟨%d2, %f2, -, H2⟩, ⟨%f6, %hf6, H6⟩,
      ⟨⟨%fk, Hfk⟩, Hrk, Hpk⟩, ⟨Hck, ⟨%gk, Hsk⟩, Hwk, Hqk⟩, ⟨⟨%fv, Hfv⟩, Hrv, Hpv⟩, ⟨Hcv, ⟨%gv, Hsv⟩, Hwv, Hqv⟩, HW, Hk⟩
    ihave Hwk' := (share_split c kA kx (Ring.sl 2 (t.val + 1)) (Ring.bk 16 (t.val + 1))).1 $$ Hwk
    icases Hwk' with ⟨Hak, Hbk⟩
    ihave Hwv' := (share_split c vA vx (Ring.sl 2 (t.val + 1)) (Ring.bk 16 (t.val + 1))).1 $$ Hwv
    icases Hwv' with ⟨Hav, Hbv⟩
    obtain rfl := harg1.eq_unread hf0; obtain rfl := harg2.eq_unread hf1; obtain rfl := harg6.eq_unread hf6
    sl_exec (disch := first | sl_exact hc0 | sl_exact hc1)
    ihave Hk1 := (k_full c kx (Ring.sl 2 t.val) (Ring.bk 16 t.val) fk) $$ [Hfk_dst Hpk]
    · isplitl [Hfk_dst]; · iexact Hfk_dst
      iexact Hpk
    ihave Hv1 := (v_full c vx (Ring.sl 2 t.val) (Ring.bk 16 t.val) fv) $$ [Hfv_dst Hpv]
    · isplitl [Hfv_dst]; · iexact Hfv_dst
      iexact Hpv
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H6]
    · iexists _; isplitr; · ipureintro; exact harg6.read_unread _
      iexact H6
    isplitl [Hck Hbk Hqk]
    · isplitl [Hck]; · iexists _; iexact Hck
      isplitl [Hbk]; · iexact Hbk
      iexact Hqk
    ihave Hk2 := (slot_release c kB (Ring.sl 2 t.val) kx (Ring.bk 16 t.val) (fun _ => zeroE) (slotVal kx (Ring.bk 16 t.val)) rfl rfl) $$ Hk1
    icases Hk2 with ⟨Hk3, Hk4⟩
    ihave Hv2 := (slot_release c vB (Ring.sl 2 t.val) vx (Ring.bk 16 t.val) (fun _ => zeroE) (slotVal vx (Ring.bk 16 t.val)) rfl rfl) $$ Hv1
    icases Hv2 with ⟨Hv3, Hv4⟩
    isplitl [Hfk Hfk_src Hrk Hk3 Hk4]
    · isplitl [Hfk]; · iexact Hfk
      isplitl [Hk3]; · iexact Hk3
      isplitl [Hfk_src Hrk]
      · iapply (share_split c kA kx (Ring.sl 2 t.val) (Ring.bk 16 t.val)).2; isplitl [Hfk_src]; · iexact Hfk_src
        iexact Hrk
      iexact Hk4
    isplitl [Hcv Hbv Hqv]
    · isplitl [Hcv]; · iexists _; iexact Hcv
      isplitl [Hbv]; · iexact Hbv
      iexact Hqv
    isplitl [Hfv Hfv_src Hrv Hv3 Hv4]
    · isplitl [Hfv]; · iexact Hfv
      isplitl [Hv3]; · iexact Hv3
      isplitl [Hfv_src Hrv]
      · iapply (share_split c vA vx (Ring.sl 2 t.val) (Ring.bk 16 t.val)).2; isplitl [Hfv_src]; · iexact Hfv_src
        iexact Hrv
      iexact Hv4
    iexists _; iexact HW

end Cert.KernelIdeal.Band

end
-- ==== Proof.KernelIdeal.Last.lean ====
/- The body at the last point: as in the middle, but there is no next block to start. -/
module

public import proofs.«01_k».proof.Proof.KernelIdeal.Slots

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen

variable {F : FTy → Type} [FloatOps F] [Named F]

local notation "𝕄" => MT nD τ sig Unit (Elt F) ℕ (Pipeline.UD sig nD τ) ℕ

set_option maxHeartbeats 1000000 in
/-- The stores of the output's block, last first, with the run that makes them. -/
def lastRun (c : Dev nD) (t : Fin grid0.N) (arg1 : Memref sig .tc .vmem S1x2048x64 .i32) (harg1 : arg1.IsWhole)
    (arg2 : Memref sig .tc .vmem S1x2048x64 .f32) (harg2 : arg2.IsWhole) (arg5 : Memref sig .tc .vmem S1x2048x64 .f32)
    (harg5 : arg5.IsWhole) (arg6 : Memref sig .tc .vmem S4x512x640 .f32) (harg6 : arg6.IsWhole)
    (hc0 : ¬isFirst (grid0.coords t)) (hc1 : ¬hasNext (grid0.coords t))
    (x0 : Vec F S1x2048x64 .i32) (x1 : Vec F S1x2048x64 .f32) (bv : Vec F S4x512x640 .f32)
    (kx : BufOf (F := F) c kA) (vx : BufOf (F := F) c vA) :
    { L : List (View.Piece (Elt F) S1x2048x64 .f32) //
      ∀ (W : Waits sig Unit) (K : PUnit → sProp 𝕄),
        iprop(owns (c : Thread nD τ) arg1 fullShare x0 ∗ owns (c : Thread nD τ) arg2 fullShare x1
            ∗ (∃ d, owns (c : Thread nD τ) arg5 fullShare d) ∗ owns (c : Thread nD τ) arg6 fullShare bv
            ∗ busy c kB kA 0 kx (fun _ => zeroE) (Ring.sl 2 t.val) (Ring.bk 16 t.val)
            ∗ busy c vB vA 1 vx (fun _ => zeroE) (Ring.sl 2 t.val) (Ring.bk 16 t.val)
            ∗ owes (c : Thread nD τ) 0 W
            ∗ (iprop(owns (c : Thread nD τ) arg1 fullShare x0 ∗ owns (c : Thread nD τ) arg2 fullShare x1
                ∗ (∃ f, arg5.view.loc (c : Thread nD τ) ↦[arg5.view.set]{fullShare} arg5.view.writes (Elt F) f L)
                ∗ owns (c : Thread nD τ) arg6 fullShare bv
                ∗ idle c kB kA 0 kx (fun _ => zeroE) (Ring.sl 2 t.val)
                ∗ idle c vB vA 1 vx (fun _ => zeroE) (Ring.sl 2 t.val)
                ∗ (∃ W', owes (c : Thread nD τ) 0 W')) -∗ K ⟨⟩))
          ⊢ wp frame (wpE (defs₀ (F := F)) Variants.none c none) Set.univ
              (cc0__attn_kernel (grid0.coords t) arg1 harg1 arg2 harg2 (Memref.whole main_arg1) (Memref.isWhole_whole _)
                (Memref.whole main_arg2) (Memref.isWhole_whole _) arg5 harg5 arg6 harg6 kB (Memref.isWhole_whole _)
                vB (Memref.isWhole_whole _) cc0_scratch3) K } := by
  refine ⟨?_, fun W K => ?run⟩
  case run =>
    haveI : Fact (¬isFirst (grid0.coords t)) := ⟨hc0⟩
    haveI : Fact (¬hasNext (grid0.coords t)) := ⟨hc1⟩
    simp only [cc0__attn_kernel_eq_skeleton]; unfold cc0__attn_kernel_skel
    simp only [k0_part1_eq_skeleton, k0_part2_eq_skeleton, k0_part3_eq_skeleton, k0_part4_eq_skeleton, k0_part5_eq_skeleton]
    unfold owns busy idle
    iintro ⟨⟨%f0, %hf0, H0⟩, ⟨%f1, %hf1, H1⟩, ⟨%d2, %f2, -, H2⟩, ⟨%f6, %hf6, H6⟩,
      ⟨⟨%fk, Hfk⟩, Hrk, Hpk⟩, ⟨⟨%fv, Hfv⟩, Hrv, Hpv⟩, HW, Hk⟩
    obtain rfl := harg1.eq_unread hf0; obtain rfl := harg2.eq_unread hf1; obtain rfl := harg6.eq_unread hf6
    sl_exec (disch := first | sl_exact hc0 | sl_exact hc1)
    ihave Hk1 := (k_full c kx (Ring.sl 2 t.val) (Ring.bk 16 t.val) fk) $$ [Hfk_dst Hpk]
    · isplitl [Hfk_dst]; · iexact Hfk_dst
      iexact Hpk
    ihave Hv1 := (v_full c vx (Ring.sl 2 t.val) (Ring.bk 16 t.val) fv) $$ [Hfv_dst Hpv]
    · isplitl [Hfv_dst]; · iexact Hfv_dst
      iexact Hpv
    sl_exec (disch := first | sl_exact hc0 | sl_exact hc1)
    sl_step
    iapply Hk
    isplitl [H0]
    · iexists _; isplitr; · ipureintro; exact harg1.read_unread _
      iexact H0
    isplitl [H1]
    · iexists _; isplitr; · ipureintro; exact harg2.read_unread _
      iexact H1
    isplitl [H2]; · iexists _; iexact H2
    isplitl [H6]
    · iexists _; isplitr; · ipureintro; exact harg6.read_unread _
      iexact H6
    ihave Hk2 := (slot_release c kB (Ring.sl 2 t.val) kx (Ring.bk 16 t.val) (fun _ => zeroE) (slotVal kx (Ring.bk 16 t.val)) rfl rfl) $$ Hk1
    icases Hk2 with ⟨Hk3, Hk4⟩
    ihave Hv2 := (slot_release c vB (Ring.sl 2 t.val) vx (Ring.bk 16 t.val) (fun _ => zeroE) (slotVal vx (Ring.bk 16 t.val)) rfl rfl) $$ Hv1
    icases Hv2 with ⟨Hv3, Hv4⟩
    isplitl [Hfk Hfk_src Hrk Hk3 Hk4]
    · isplitl [Hfk]; · iexact Hfk
      isplitl [Hk3]; · iexact Hk3
      isplitl [Hfk_src Hrk]
      · iapply (share_split c kA kx (Ring.sl 2 t.val) (Ring.bk 16 t.val)).2; isplitl [Hfk_src]; · iexact Hfk_src
        iexact Hrk
      iexact Hk4
    isplitl [Hfv Hfv_src Hrv Hv3 Hv4]
    · isplitl [Hfv]; · iexact Hfv
      isplitl [Hv3]; · iexact Hv3
      isplitl [Hfv_src Hrv]
      · iapply (share_split c vA vx (Ring.sl 2 t.val) (Ring.bk 16 t.val)).2; isplitl [Hfv_src]; · iexact Hfv_src
        iexact Hrv
      iexact Hv4
    iexists _; iexact HW

end Cert.KernelIdeal.Band

end
-- ==== Proof.KernelIdeal.Pieces.lean ====
/- What the body stores, as functions of what it is given: the bias of a head (the same for all heads), and the block of
   the output from the block of `q`, the bias, and the blocks of `k` and `v` in their slots. The three runs store these. -/
module

public import proofs.«01_k».proof.Proof.KernelIdeal.First
public import proofs.«01_k».proof.Proof.KernelIdeal.Middle
public import proofs.«01_k».proof.Proof.KernelIdeal.Last
public import Idealize.ShloMosaic.Lib.WholeRead

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix3)

variable {F : FTy → Type} [FloatOps F] [Named F]

local notation "𝕄" => MT nD τ sig Unit (Elt F) ℕ (Pipeline.UD sig nD τ) ℕ

/-! ## Windows -/

/-- Sub-block `i` of a block of `q`: rows `512 i …`. -/
def qWin (x : Vec F S1x2048x64 .f32) (i : Fin 4) : Vec F S1x512x64 .f32 := fun y =>
  x (ix3 0 ⟨512 * i.val + (y 1).val, by have h : (y 1).val < 512 := (y 1).isLt; omega⟩ (y 2))
/-- The first column of sub-block `i` of the column indices. -/
def cWin (x : Vec F S1x2048x64 .i32) (i : Fin 4) : Vec F S1x512x1 .i32 := fun y =>
  x (ix3 0 ⟨512 * i.val + (y 1).val, by have h : (y 1).val < 512 := (y 1).isLt; omega⟩ 0)
/-- The 640 rows of a slot that sub-block `i` reads: rows `512 i …` of the padded block `b`. -/
def sWin (x : Vec F S16x2048x64 .f32) (b : Fin 16) (i : Fin 4) : Vec F S1x640x64 .f32 := fun y =>
  slotVal x b (ix3 0 ⟨512 * i.val + (y 1).val, by have h : (y 1).val < 640 := (y 1).isLt; omega⟩ (y 2))
/-- Sub-block `i` of the bias. -/
def bWin (x : Vec F S4x512x640 .f32) (i : Fin 4) : Vec F S1x512x640 .f32 := fun y => x (ix3 i (y 1) (y 2))

theorem load_q {m : Memref sig .tc .vmem S1x2048x64 .f32} (h : m.IsWhole) (x : Vec F S1x2048x64 .f32) (i : Fin 4) {o : Fin 3 → ℕ}
    (ho : o = ![0, 512 * i.val, 0]) (inb : ∀ a, o a + S1x512x64.size a ≤ S1x2048x64.size a) :
    View.readAt (Elt F) m.view (Rect.unit (s := S1x2048x64) o S1x512x64.size inb).toLoadRect (h.unread x) = qWin x i := by
  subst ho; funext y
  rw [h.readAt_unread]
  refine congrArg x (funext fun a => Fin.ext ?_)
  have h0 : (y 0).val < 1 := (y 0).isLt
  fin_cases a
  · show 0 + 1 * (y 0).val = 0; omega
  · show 512 * i.val + 1 * (y 1).val = 512 * i.val + (y 1).val; omega
  · show 0 + 1 * (y 2).val = (y 2).val; omega

theorem load_c {m : Memref sig .tc .vmem S1x2048x64 .i32} (h : m.IsWhole) (x : Vec F S1x2048x64 .i32) (i : Fin 4) {o : Fin 3 → ℕ}
    (ho : o = ![0, 512 * i.val, 0]) (inb : ∀ a, o a + S1x512x1.size a ≤ S1x2048x64.size a) :
    View.readAt (Elt F) m.view (Rect.unit (s := S1x2048x64) o S1x512x1.size inb).toLoadRect (h.unread x) = cWin x i := by
  subst ho; funext y
  rw [h.readAt_unread]
  refine congrArg x (funext fun a => Fin.ext ?_)
  have h0 : (y 0).val < 1 := (y 0).isLt
  have h2 : (y 2).val < 1 := (y 2).isLt
  fin_cases a
  · show 0 + 1 * (y 0).val = 0; omega
  · show 512 * i.val + 1 * (y 1).val = 512 * i.val + (y 1).val; omega
  · show 0 + 1 * (y 2).val = 0; omega

theorem load_b {m : Memref sig .tc .vmem S4x512x640 .f32} (h : m.IsWhole) (x : Vec F S4x512x640 .f32) (i : Fin 4) {o : Fin 3 → ℕ}
    (ho : o = ![i.val, 0, 0]) (inb : ∀ a, o a + S1x512x640.size a ≤ S4x512x640.size a) :
    View.readAt (Elt F) m.view (Rect.unit (s := S4x512x640) o S1x512x640.size inb).toLoadRect (h.unread x) = bWin x i := by
  subst ho; funext y
  rw [h.readAt_unread]
  refine congrArg x (funext fun a => Fin.ext ?_)
  have h0 : (y 0).val < 1 := (y 0).isLt
  fin_cases a
  · show i.val + 1 * (y 0).val = i.val; omega
  · show 0 + 1 * (y 1).val = (y 1).val; omega
  · show 0 + 1 * (y 2).val = (y 2).val; omega

theorem load_s {B : Memref sig .tc .vmem S2x2176x64 .f32} (c : Dev nD) (g : BufOf (F := F) c B) (x : Vec F S16x2048x64 .f32) (b : Fin 16)
    (hg : B.view.read (Elt F) g = slotVal x b) (s : Fin 2) (i : Fin 4) {o : Fin 3 → ℕ}
    (ho : o = ![s.val, 512 * i.val, 0]) (inb : ∀ a, o a + S1x640x64.size a ≤ S2x2176x64.size a) :
    View.readAt (Elt F) B.view (Rect.unit (s := S2x2176x64) o S1x640x64.size inb).toLoadRect g = sWin x b i := by
  subst ho; funext y
  rw [View.readAt_apply, hg]
  have e : ((Rect.unit (s := S2x2176x64) ![s.val, 512 * i.val, 0] S1x640x64.size inb).toLoadRect.idx y 1).val = 512 * i.val + (y 1).val := by
    show 512 * i.val + 1 * (y 1).val = _; omega
  have e' : ((Rect.unit (s := S2x2176x64) ![s.val, 512 * i.val, 0] S1x640x64.size inb).toLoadRect.idx y 2).val = (y 2).val := by
    show 0 + 1 * (y 2).val = _; omega
  unfold sWin slotVal
  simp only [e, Fin.ext e']

/-! ## The bias -/

/-- The bias of 512 rows against 640 columns: 0 where column `o + d` lies in the row's 64 columns, the mask elsewhere. -/
def biasBlk (o : BitVec 32) (r : Vec F S1x512x1 .i32) : FVec F S1x512x640 .f32 :=
  have col : IVec S512x640 32 := addi (broadcast S512x640 o) (iota .tc S512x640 32 [1] iota_S512x640_d1_w32)
  have start : IVec S512x1 32 := shapeCast S512x1 r shapeCasts_S1x512x1_S512x1
  have inside : IVec S512x640 1 :=
    andi (cmpi .sge col (broadcastTo S512x640 start broadcasts_S512x1_S512x640))
      (cmpi .slt col (broadcastTo S512x640 (addi start (broadcast S512x1 64#32)) broadcasts_S512x1_S512x640))
  shapeCast S1x512x640
    (select inside (broadcast S512x640 (Scalar.ofBits .f32 0x00000000#32 : F .f32))
      (broadcast S512x640 (Named.named κ "mask" 0xF149F2CA#32 : F .f32))) shapeCasts_S512x640_S1x512x640

/-- The column before sub-block `i`'s first: `512 i - 32` as a word. -/
def colBase (i : Fin 4) : BitVec 32 := ![4294967264#32, 480#32, 992#32, 1504#32] i

/-- The bias of all four sub-blocks. -/
def biasOf (x : Vec F S1x2048x64 .i32) : Vec F S4x512x640 .f32 := fun y => biasBlk (colBase (y 0)) (cWin x (y 0)) (ix3 0 (y 1) (y 2))

theorem bWin_biasOf (x : Vec F S1x2048x64 .i32) (i : Fin 4) : bWin (biasOf x) i = biasBlk (colBase i) (cWin x i) := by
  funext y
  show biasBlk (colBase i) (cWin x i) (ix3 0 (y 1) (y 2)) = _
  refine congrArg _ (funext fun a => ?_)
  fin_cases a
  · exact Fin.ext (by have h0 : (y 0).val < 1 := (y 0).isLt; show 0 = (y 0).val; omega)
  · rfl
  · rfl

/-- The four stores of the bias. -/
def biasPieces (w : Fin 4 → Vec F S1x512x640 .f32) : List (View.Piece (Elt F) S4x512x640 .f32) :=
  [⟨Rect.unit ![3, 0, 0] S1x512x640.size inb_S4x512x640_S1x512x640_3_0_0, w 3⟩, ⟨Rect.unit ![2, 0, 0] S1x512x640.size inb_S4x512x640_S1x512x640_2_0_0, w 2⟩,
    ⟨Rect.unit ![1, 0, 0] S1x512x640.size inb_S4x512x640_S1x512x640_1_0_0, w 1⟩, ⟨Rect.unit ![0, 0, 0] S1x512x640.size inb_S4x512x640_S1x512x640_0_0_0, w 0⟩]

theorem biasPiece_at (x : Vec F S1x2048x64 .i32) (i : Fin 4) (o : Fin 3 → ℕ) (ho : o = ![i.val, 0, 0])
    (inb : ∀ a, o a + S1x512x640.size a ≤ S4x512x640.size a) (y : S1x512x640.Idx) :
    bWin (biasOf x) i y = biasOf x ((Rect.unit (s := S4x512x640) o S1x512x640.size inb).emb y) := by
  subst ho
  refine congrArg (biasOf x) (funext fun a => Fin.ext ?_)
  have h0 : (y 0).val < 1 := (y 0).isLt
  fin_cases a
  · show i.val = i.val + 1 * (y 0).val; omega
  · show (y 1).val = 0 + 1 * (y 1).val; omega
  · show (y 2).val = 0 + 1 * (y 2).val; omega

theorem biasPieces_read {sp : Space} (v : View sig .tc sp S4x512x640 .f32) (f : v.ty.Contents (Elt F)) (x : Vec F S1x2048x64 .i32) :
    v.read (Elt F) (v.writes (Elt F) f (biasPieces (bWin (biasOf x)))) = biasOf x := by
  funext y
  refine View.read_writes_apply_of_pieces v f (biasOf x) _ ?_ y
    (View.cover_of_tiledL (biasPieces (bWin (biasOf x))) S1x512x640.size (by sl_kernel_rfl) y)
  intro p hp
  simp only [biasPieces, List.mem_cons, List.not_mem_nil, or_false] at hp
  rcases hp with rfl | rfl | rfl | rfl
  · exact biasPiece_at x 3 ![3, 0, 0] rfl inb_S4x512x640_S1x512x640_3_0_0
  · exact biasPiece_at x 2 ![2, 0, 0] rfl inb_S4x512x640_S1x512x640_2_0_0
  · exact biasPiece_at x 1 ![1, 0, 0] rfl inb_S4x512x640_S1x512x640_1_0_0
  · exact biasPiece_at x 0 ![0, 0, 0] rfl inb_S4x512x640_S1x512x640_0_0_0

/-! ## The block of the output -/

/-- One sub-block of the output: `exp (q kᵀ + b)`, its product with `v`, over its row sums. -/
def subBlk (q : Vec F S1x512x64 .f32) (k v : Vec F S1x640x64 .f32) (b : Vec F S1x512x640 .f32) : FVec F S1x512x64 .f32 :=
  k0_pay9 (k0_pay7 q) (k0_pay8 k) v b

/-- The block of the output, sub-block by sub-block. -/
def blkOut (x0 : Vec F S1x2048x64 .i32) (x1 : Vec F S1x2048x64 .f32) (kx vx : Vec F S16x2048x64 .f32) (b : Fin 16) :
    Vec F S1x2048x64 .f32 := fun y =>
  have i : Fin 4 := ⟨(y 1).val / 512, by have h : (y 1).val < 2048 := (y 1).isLt; omega⟩
  subBlk (qWin x1 i) (sWin kx b i) (sWin vx b i) (bWin (biasOf x0) i) (ix3 0 ⟨(y 1).val % 512, Nat.mod_lt _ (by decide)⟩ (y 2))

/-- The four stores of the output's block. -/
def outPieces (w : Fin 4 → FVec F S1x512x64 .f32) : List (View.Piece (Elt F) S1x2048x64 .f32) :=
  [⟨Rect.unit ![0, 1536, 0] S1x512x64.size inb_S1x2048x64_S1x512x64_0_1536_0, w 3⟩, ⟨Rect.unit ![0, 1024, 0] S1x512x64.size inb_S1x2048x64_S1x512x64_0_1024_0, w 2⟩,
    ⟨Rect.unit ![0, 512, 0] S1x512x64.size inb_S1x2048x64_S1x512x64_0_512_0, w 1⟩, ⟨Rect.unit ![0, 0, 0] S1x512x64.size inb_S1x2048x64_S1x512x64_0_0_0, w 0⟩]

theorem outPiece_at (x0 : Vec F S1x2048x64 .i32) (x1 : Vec F S1x2048x64 .f32) (kx vx : Vec F S16x2048x64 .f32) (b : Fin 16) (i : Fin 4)
    (o : Fin 3 → ℕ) (ho : o = ![0, 512 * i.val, 0]) (inb : ∀ a, o a + S1x512x64.size a ≤ S1x2048x64.size a) (y : S1x512x64.Idx) :
    subBlk (qWin x1 i) (sWin kx b i) (sWin vx b i) (bWin (biasOf x0) i) y
      = blkOut x0 x1 kx vx b ((Rect.unit (s := S1x2048x64) o S1x512x64.size inb).emb y) := by
  subst ho
  have h0 : (y 0).val < 1 := (y 0).isLt
  have h1 : (y 1).val < 512 := (y 1).isLt
  have e1 : ((Rect.unit (s := S1x2048x64) ![0, 512 * i.val, 0] S1x512x64.size inb).emb y 1).val = 512 * i.val + (y 1).val := by
    show 512 * i.val + 1 * (y 1).val = _; omega
  have e2 : ((Rect.unit (s := S1x2048x64) ![0, 512 * i.val, 0] S1x512x64.size inb).emb y 2).val = (y 2).val := by
    show 0 + 1 * (y 2).val = _; omega
  have ei : (⟨((Rect.unit (s := S1x2048x64) ![0, 512 * i.val, 0] S1x512x64.size inb).emb y 1).val / 512, by rw [e1]; omega⟩ : Fin 4) = i :=
    Fin.ext (by show _ / 512 = _; rw [e1]; omega)
  unfold blkOut
  simp only [ei]
  refine congrArg _ (funext fun a => Fin.ext ?_)
  fin_cases a
  · show (y 0).val = 0; omega
  · show (y 1).val = _ % 512; rw [e1]; omega
  · exact e2.symm

theorem outPieces_read {sp : Space} (v : View sig .tc sp S1x2048x64 .f32) (f : v.ty.Contents (Elt F)) (x0 : Vec F S1x2048x64 .i32)
    (x1 : Vec F S1x2048x64 .f32) (kx vx : Vec F S16x2048x64 .f32) (b : Fin 16) :
    v.read (Elt F) (v.writes (Elt F) f (outPieces fun i => subBlk (qWin x1 i) (sWin kx b i) (sWin vx b i) (bWin (biasOf x0) i)))
      = blkOut x0 x1 kx vx b := by
  funext y
  refine View.read_writes_apply_of_pieces v f (blkOut x0 x1 kx vx b) _ ?_ y
    (View.cover_of_tiledL (outPieces fun i => subBlk (qWin x1 i) (sWin kx b i) (sWin vx b i) (bWin (biasOf x0) i)) S1x512x64.size (by sl_kernel_rfl) y)
  intro p hp
  simp only [outPieces, List.mem_cons, List.not_mem_nil, or_false] at hp
  rcases hp with rfl | rfl | rfl | rfl
  · exact outPiece_at x0 x1 kx vx b 3 ![0, 1536, 0] rfl inb_S1x2048x64_S1x512x64_0_1536_0
  · exact outPiece_at x0 x1 kx vx b 2 ![0, 1024, 0] rfl inb_S1x2048x64_S1x512x64_0_1024_0
  · exact outPiece_at x0 x1 kx vx b 1 ![0, 512, 0] rfl inb_S1x2048x64_S1x512x64_0_512_0
  · exact outPiece_at x0 x1 kx vx b 0 ![0, 0, 0] rfl inb_S1x2048x64_S1x512x64_0_0_0

/-! ## The three runs store these -/

section Runs

variable (c : Dev nD) (t : Fin grid0.N) (arg1 : Memref sig .tc .vmem S1x2048x64 .i32) (harg1 : arg1.IsWhole)
    (arg2 : Memref sig .tc .vmem S1x2048x64 .f32) (harg2 : arg2.IsWhole) (arg5 : Memref sig .tc .vmem S1x2048x64 .f32)
    (harg5 : arg5.IsWhole) (arg6 : Memref sig .tc .vmem S4x512x640 .f32) (harg6 : arg6.IsWhole)
    (x0 : Vec F S1x2048x64 .i32) (x1 : Vec F S1x2048x64 .f32) (kx : BufOf (F := F) c kA) (vx : BufOf (F := F) c vA)

theorem inb_q (i : Fin 4) : ∀ a, (![0, 512 * i.val, 0] : Fin 3 → ℕ) a + S1x512x64.size a ≤ S1x2048x64.size a := by
  revert i; decide
theorem inb_c (i : Fin 4) : ∀ a, (![0, 512 * i.val, 0] : Fin 3 → ℕ) a + S1x512x1.size a ≤ S1x2048x64.size a := by
  revert i; decide
theorem inb_b (i : Fin 4) : ∀ a, (![i.val, 0, 0] : Fin 3 → ℕ) a + S1x512x640.size a ≤ S4x512x640.size a := by
  revert i; decide

/-- The offsets of the windows of the slots, as one function of the sub-block. -/
def winOff (i : Fin 4) : Fin 3 → ℕ :=
  ![k0_off9 (grid0.coords t), k0_off10 (grid0.coords t), k0_off11 (grid0.coords t), k0_off12 (grid0.coords t)] i
theorem winOff_eq (i : Fin 4) : winOff t i = ![(Ring.sl 2 t.val).val, 512 * i.val, 0] := by
  fin_cases i
  · exact off9_eq t
  · exact off10_eq t
  · exact off11_eq t
  · exact off12_eq t
theorem winOff_inb (i : Fin 4) : ∀ a, winOff t i a + S1x640x64.size a ≤ S2x2176x64.size a := by
  fin_cases i
  · exact k0_off9_inb (grid0.coords t)
  · exact k0_off10_inb (grid0.coords t)
  · exact k0_off11_inb (grid0.coords t)
  · exact k0_off12_inb (grid0.coords t)

/-- What the body loads for sub-block `i`: of `q`, -/
abbrev ldQ (i : Fin 4) : Vec F S1x512x64 .f32 :=
  View.readAt (Elt F) arg2.view (Rect.unit (s := S1x2048x64) ![0, 512 * i.val, 0] S1x512x64.size (inb_q i)).toLoadRect (harg2.unread x1)
/-- of the column indices, -/
abbrev ldC (i : Fin 4) : Vec F S1x512x1 .i32 :=
  View.readAt (Elt F) arg1.view (Rect.unit (s := S1x2048x64) ![0, 512 * i.val, 0] S1x512x1.size (inb_c i)).toLoadRect (harg1.unread x0)
/-- of a slot, -/
abbrev ldS (B : Memref sig .tc .vmem S2x2176x64 .f32) (g : BufOf (F := F) c B) (i : Fin 4) : Vec F S1x640x64 .f32 :=
  View.readAt (Elt F) B.view (Rect.unit (s := S2x2176x64) (winOff t i) S1x640x64.size (winOff_inb t i)).toLoadRect g
/-- of the bias, where it was there before the point, -/
abbrev ldB (x : Vec F S4x512x640 .f32) (i : Fin 4) : Vec F S1x512x640 .f32 :=
  View.readAt (Elt F) arg6.view (Rect.unit (s := S4x512x640) ![i.val, 0, 0] S1x512x640.size (inb_b i)).toLoadRect (harg6.unread x)
/-- and of the bias at the first point, from the stores made so far. -/
abbrev ldF (i : Fin 4) : Vec F S1x512x640 .f32 :=
  View.readCov (Val := Elt F) arg6.view ((biasPieces fun j => biasBlk (colBase j) (ldC arg1 harg1 x0 j)).drop (3 - i.val))
    (Rect.unit (s := S4x512x640) ![i.val, 0, 0] S1x512x640.size (inb_b i)).toLoadRect

theorem ldF_eq (i : Fin 4) : ldF arg1 harg1 arg6 x0 i = biasBlk (colBase i) (ldC arg1 harg1 x0 i) := by
  fin_cases i <;> exact View.readCov_cons_toLoadRect _ _ _ _

/-- The stores from the loads are the stores of the windows. -/
theorem stores_eq (b : Fin 4 → Vec F S1x512x640 .f32) (hb : ∀ i, b i = bWin (biasOf x0) i) :
    (outPieces fun i => subBlk (ldQ arg2 harg2 x1 i) (ldS c t kB (slotVal kx (Ring.bk 16 t.val)) i)
        (ldS c t vB (slotVal vx (Ring.bk 16 t.val)) i) (b i))
      = outPieces fun i => subBlk (qWin x1 i) (sWin kx (Ring.bk 16 t.val) i) (sWin vx (Ring.bk 16 t.val) i) (bWin (biasOf x0) i) :=
  congrArg outPieces (funext fun i => by
    rw [hb i, show ldQ arg2 harg2 x1 i = qWin x1 i from load_q harg2 x1 i rfl _,
      show ldS c t kB (slotVal kx (Ring.bk 16 t.val)) i = sWin kx (Ring.bk 16 t.val) i from
        load_s (B := kB) c _ kx _ rfl (Ring.sl 2 t.val) i (winOff_eq t i) _,
      show ldS c t vB (slotVal vx (Ring.bk 16 t.val)) i = sWin vx (Ring.bk 16 t.val) i from
        load_s (B := vB) c _ vx _ rfl (Ring.sl 2 t.val) i (winOff_eq t i) _])

theorem middle_out (hc0 : ¬isFirst (grid0.coords t)) (hc1 : hasNext (grid0.coords t)) {sp : Space} (v : View sig .tc sp S1x2048x64 .f32)
    (f : v.ty.Contents (Elt F)) :
    v.read (Elt F) (v.writes (Elt F) f (middleRun c t arg1 harg1 arg2 harg2 arg5 harg5 arg6 harg6 hc0 hc1 x0 x1 (biasOf x0) kx vx).1)
      = blkOut x0 x1 kx vx (Ring.bk 16 t.val) := by
  have e : (middleRun c t arg1 harg1 arg2 harg2 arg5 harg5 arg6 harg6 hc0 hc1 x0 x1 (biasOf x0) kx vx).1
      = outPieces fun i => subBlk (ldQ arg2 harg2 x1 i) (ldS c t kB (slotVal kx (Ring.bk 16 t.val)) i)
        (ldS c t vB (slotVal vx (Ring.bk 16 t.val)) i) (ldB arg6 harg6 (biasOf x0) i) := rfl
  rw [e, stores_eq c t arg2 harg2 x0 x1 kx vx _ fun i => load_b harg6 (biasOf x0) i rfl _]
  exact outPieces_read v f x0 x1 kx vx _

theorem last_out (hc0 : ¬isFirst (grid0.coords t)) (hc1 : ¬hasNext (grid0.coords t)) {sp : Space} (v : View sig .tc sp S1x2048x64 .f32)
    (f : v.ty.Contents (Elt F)) :
    v.read (Elt F) (v.writes (Elt F) f (lastRun c t arg1 harg1 arg2 harg2 arg5 harg5 arg6 harg6 hc0 hc1 x0 x1 (biasOf x0) kx vx).1)
      = blkOut x0 x1 kx vx (Ring.bk 16 t.val) := by
  have e : (lastRun c t arg1 harg1 arg2 harg2 arg5 harg5 arg6 harg6 hc0 hc1 x0 x1 (biasOf x0) kx vx).1
      = outPieces fun i => subBlk (ldQ arg2 harg2 x1 i) (ldS c t kB (slotVal kx (Ring.bk 16 t.val)) i)
        (ldS c t vB (slotVal vx (Ring.bk 16 t.val)) i) (ldB arg6 harg6 (biasOf x0) i) := rfl
  rw [e, stores_eq c t arg2 harg2 x0 x1 kx vx _ fun i => load_b harg6 (biasOf x0) i rfl _]
  exact outPieces_read v f x0 x1 kx vx _

theorem first_out (hc0 : isFirst (grid0.coords t)) (hc1 : hasNext (grid0.coords t)) {sp : Space} (v : View sig .tc sp S1x2048x64 .f32)
    (f : v.ty.Contents (Elt F)) :
    v.read (Elt F) (v.writes (Elt F) f (firstRun c t arg1 harg1 arg2 harg2 arg5 harg5 arg6 harg6 hc0 hc1 x0 x1 kx vx).1.2)
      = blkOut x0 x1 kx vx (Ring.bk 16 t.val) := by
  have e : (firstRun c t arg1 harg1 arg2 harg2 arg5 harg5 arg6 harg6 hc0 hc1 x0 x1 kx vx).1.2
      = outPieces fun i => subBlk (ldQ arg2 harg2 x1 i) (ldS c t kB (slotVal kx (Ring.bk 16 t.val)) i)
        (ldS c t vB (slotVal vx (Ring.bk 16 t.val)) i) (ldF arg1 harg1 arg6 x0 i) := rfl
  rw [e, stores_eq c t arg2 harg2 x0 x1 kx vx _ fun i => by
    rw [ldF_eq, bWin_biasOf]; exact congrArg _ (load_c harg1 x0 i rfl _)]
  exact outPieces_read v f x0 x1 kx vx _

theorem first_bias (hc0 : isFirst (grid0.coords t)) (hc1 : hasNext (grid0.coords t)) {sp : Space} (v : View sig .tc sp S4x512x640 .f32)
    (f : v.ty.Contents (Elt F)) :
    v.read (Elt F) (v.writes (Elt F) f (firstRun c t arg1 harg1 arg2 harg2 arg5 harg5 arg6 harg6 hc0 hc1 x0 x1 kx vx).1.1) = biasOf x0 := by
  have e : (firstRun c t arg1 harg1 arg2 harg2 arg5 harg5 arg6 harg6 hc0 hc1 x0 x1 kx vx).1.1
      = biasPieces fun j => biasBlk (colBase j) (ldC arg1 harg1 x0 j) := rfl
  have e' : (fun j => biasBlk (colBase j) (ldC arg1 harg1 x0 j)) = bWin (F := F) (biasOf x0) := funext fun j => by
    rw [bWin_biasOf]; exact congrArg _ (load_c harg1 x0 j rfl _)
  rw [e, e']
  exact biasPieces_read v f x0

end Runs

end Cert.KernelIdeal.Band

end
-- ==== Proof.KernelIdeal.Stream.lean ====
/- A stream (an operand, its double buffer, its cells) between points: untouched before the first, one slot expecting its
   block and one idle before every other, both idle at the end; with how the launch's pieces make the first and are got
   back from the last. -/
module

public import proofs.«01_k».proof.Proof.KernelIdeal.Slots

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix3)

variable {F : FTy → Type} [FloatOps F] [Named F]

local notation "𝕄" => MT nD τ sig Unit (Elt F) ℕ (Pipeline.UD sig nD τ) ℕ

section Stream
variable (c : Dev nD) (B : Memref sig .tc .vmem S2x2176x64 .f32) (A : Memref sig .tc .hbm S16x2048x64 .f32) (j : Fin 2)
  (W : BufOf (F := F) c A) (z : BufOf (F := F) c B)

/-- A stream before point `k`. -/
def stream (k : ℕ) : sProp 𝕄 :=
  if k = 0 then fresh c B A j W (Ring.sl 2 k) (Ring.sl 2 (k + 1))
  else if k < 16 then iprop(busy c B A j W z (Ring.sl 2 k) (Ring.bk 16 k) ∗ idle c B A j W z (Ring.sl 2 (k + 1)))
  else iprop(idle c B A j W z (Ring.sl 2 k) ∗ idle c B A j W z (Ring.sl 2 (k + 1)))

theorem stream_first (k : ℕ) (h : k = 0) : stream c B A j W z k = fresh c B A j W (Ring.sl 2 k) (Ring.sl 2 (k + 1)) := if_pos h
theorem stream_middle (k : ℕ) (h : k ≠ 0) (h' : k < 16) :
    stream c B A j W z k = iprop(busy c B A j W z (Ring.sl 2 k) (Ring.bk 16 k) ∗ idle c B A j W z (Ring.sl 2 (k + 1))) :=
  (if_neg h).trans (if_pos h')
theorem stream_end (k : ℕ) (h : ¬k < 16) :
    stream c B A j W z k = iprop(idle c B A j W z (Ring.sl 2 k) ∗ idle c B A j W z (Ring.sl 2 (k + 1))) :=
  (if_neg (by omega)).trans (if_neg h)

/-- The operand whole is the two shares of it. -/
theorem operand_shares :
    (A.view.loc (c : Thread nD τ) ↦[A.view.set]{fullShare} W : sProp 𝕄) ⊣⊢ iprop(shareP (F := F) c A W 0 ∗ shareP c A W 1) :=
  pointsTo_share (PosShare.mem_left_op_right fullShare)

/-- The launch's pieces make the stream before the first point, -/
theorem stream_in (hB : B.IsWhole) :
    iprop((∃ d, owns (c : Thread nD τ) B fullShare d) ∗ (cellP (F := F) c j 0 ∗ cellP c j 1)
        ∗ A.view.loc (c : Thread nD τ) ↦[A.view.set]{fullShare} W)
      ⊢ stream c B A j W z 0 := by
  rw [stream_first c B A j W z 0 rfl, show Ring.sl 2 0 = 0 from rfl, show Ring.sl 2 (0 + 1) = 1 from rfl]
  unfold fresh
  iintro ⟨HB, ⟨H0, H1⟩, HA⟩
  ihave HB' := (whole_in c B hB 0 1 (by decide)) $$ HB
  icases HB' with ⟨Hl, Hh, Hr, Hr'⟩
  ihave HA' := (operand_shares c A W).1 $$ HA
  icases HA' with ⟨Ha, Ha'⟩
  isplitl [H0]; · iexact H0
  isplitl [H1]; · iexact H1
  isplitl [Ha]; · iexact Ha
  isplitl [Ha']; · iexact Ha'
  isplitl [Hl]; · iexact Hl
  isplitl [Hh]; · iexact Hh
  isplitl [Hr]; · iexact Hr
  iexact Hr'

/-- and are got back after the last. -/
theorem stream_out (hB : B.IsWhole) :
    stream c B A j W z 16 ⊢
      iprop((∃ d, owns (c : Thread nD τ) B fullShare d) ∗ (cellP (F := F) c j 0 ∗ cellP c j 1)
        ∗ A.view.loc (c : Thread nD τ) ↦[A.view.set]{fullShare} W) := by
  rw [stream_end c B A j W z 16 (by decide), show Ring.sl 2 16 = 0 from rfl, show Ring.sl 2 (16 + 1) = 1 from rfl]
  unfold idle
  iintro ⟨⟨H0, Hr, Ha, Hp⟩, ⟨H1, Hr', Ha', Hp'⟩⟩
  isplitl [Hr Hp Hr' Hp']
  · iapply (whole_out c B hB 0 1 (by decide) z)
    isplitl [Hr Hp]
    · isplitl [Hr]; · iexact Hr
      iexact Hp
    · isplitl [Hr']; · iexact Hr'
      iexact Hp'
  isplitl [H0 H1]
  · isplitl [H0]; · iexact H0
    iexact H1
  iapply (operand_shares c A W).2
  isplitl [Ha]; · iexact Ha
  iexact Ha'

end Stream

end Cert.KernelIdeal.Band

end
-- ==== Proof.KernelIdeal.Frame.lean ====
/- The run of the kernel over its sixteen points: the invariant between points, the body at every point, what the output
   ends with, and the frame. -/
module

public import proofs.«01_k».proof.Proof.KernelIdeal.Pieces
public import proofs.«01_k».proof.Proof.KernelIdeal.Stream
public import Idealize.ShloMosaic.Lib.Claim

@[expose] public section

set_option maxRecDepth 16384

noncomputable section

namespace Cert.KernelIdeal.Band

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal.Gen
open Idealize.ShloMosaic.ValueIdx (ix3)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-! ## The launch's own resources -/

/-- The body's own cells. -/
abbrev ownCells : Fin 4 → SemLoc sig := fun j => (![SemLoc.dma 5, SemLoc.dma 6, SemLoc.dma 7, SemLoc.dma 8] : Fin 4 → SemLoc sig) j
theorem ownCells_facts : Pipeline.OwnSemFacts spec0 ownCells := by decide
theorem ownCells_eq (c : Dev nD) :
    (Pipeline.ownSems0 (Ix := Unit) (Name := ℕ) (U := Pipeline.UD sig nD τ) (Lvl := ℕ) (Val := Elt F) (τ := τ) ownCells c : sProp 𝕄)
      = iprop(semVal ((c : Thread nD τ), SemLoc.dma 5) 0 ∗ semVal ((c : Thread nD τ), SemLoc.dma 6) 0
        ∗ semVal ((c : Thread nD τ), SemLoc.dma 7) 0 ∗ semVal ((c : Thread nD τ), SemLoc.dma 8) 0) := by
  rw [Pipeline.ownSems0_eq_of_list c ownCells [0, 1, 2, 3] (by decide) (by decide)]; rfl
/-- The operands the body copies itself. -/
def copied : Finset (Ref sig .tc) := {main_arg1, main_arg2}
theorem copied_sub : copied ⊆ Pipeline.restRefs sig spec0 := by decide
theorem copied_eq (c : Dev nD) :
    (bigSep copied (fun b => ((c : Thread nD τ).loc b) ↦{fullShare} V m c b) : sProp 𝕄)
      = iprop((kA.view.loc (c : Thread nD τ) ↦{fullShare} V m c main_arg1) ∗ (vA.view.loc (c : Thread nD τ) ↦{fullShare} V m c main_arg2)) := by
  rw [BI.bigSep_eq_bigSepL_of_eq [main_arg1, main_arg2] (by decide) (by decide)]; rfl
/-- What the launch hands over, piece by piece. -/
theorem launch_eq (c : Dev nD) :
    (Pipeline.ΦD ownCells spec0 copied (V m) c : sProp 𝕄)
      = iprop(iprop((∃ d, owns (c : Thread nD τ) biasM fullShare d) ∗ (∃ d, owns (c : Thread nD τ) kB fullShare d)
          ∗ (∃ d, owns (c : Thread nD τ) vB fullShare d)) ∗ (∃ r, prngReg c r)
        ∗ iprop(cellP c 0 0 ∗ cellP c 1 0 ∗ cellP c 0 1 ∗ cellP c 1 1)
        ∗ iprop((kA.view.loc (c : Thread nD τ) ↦[kA.view.set]{fullShare} V m c main_arg1) ∗ (vA.view.loc (c : Thread nD τ) ↦[vA.view.set]{fullShare} V m c main_arg2))) := by
  unfold cellP
  rw [cellL_00, cellL_01, cellL_10, cellL_11, (Memref.isWhole_whole main_arg1 : kA.IsWhole).set_eq_univ, (Memref.isWhole_whole main_arg2 : vA.IsWhole).set_eq_univ,
    Pipeline.ΦD_eq, scopedRest0_eq, ownCells_eq, copied_eq]
  simp only [biasM, kB, vB, owns_whole]; try rfl

/-! ## The invariant -/

/-- The column indices: one block, the same at every point. -/
def colsOf (c : Dev nD) : Vec F S1x2048x64 .i32 := iblk m c 0 ⟨0, by rw [show cfg0.N = 16 from N_0]; decide⟩
theorem cols_at (c : Dev nD) (t : Fin cfg0.N) : (iblk m c 0 t : Vec F S1x2048x64 .i32) = colsOf m c := rfl

/-- The bias before point `k`: anything at first, then the bias of the column indices. -/
def biasAt (c : Dev nD) (k : ℕ) : sProp 𝕄 :=
  if k = 0 then iprop(∃ d, owns (c : Thread nD τ) biasM fullShare d) else owns (c : Thread nD τ) biasM fullShare (biasOf (colsOf m c))

/-- What holds before point `k`. -/
def between (c : Dev nD) (k : ℕ) : sProp 𝕄 :=
  iprop(biasAt m c k ∗ (∃ r, prngReg c r) ∗ stream c kB kA 0 (V m c main_arg1) (fun _ => zeroE) k
    ∗ stream c vB vA 1 (V m c main_arg2) (fun _ => zeroE) k)

/-- The block of the output that point `t` stores. -/
def outAt (c : Dev nD) (t : Fin cfg0.N) : Vec F S1x2048x64 .f32 :=
  blkOut (colsOf m c) (iblk m c 1 t) (V m c main_arg1) (V m c main_arg2) (Ring.bk 16 t.val)

def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => outAt m c t
  Φ t := between m c t.val
  q _ := fullShare
  owed _ := 0

theorem arr_eq (c : Dev nD) (w : Fin cfg0.W) : (dats m 0 c).A w = V m c (Pipeline.arrRef spec0 w) := by dsimp only [dats]
theorem inv_before (c : Dev nD) (t : Fin cfg0.N) : (dats m 0 c).Φ t.castSucc = between m c t.val := by
  dsimp only [dats]; simp only [Fin.coe_castSucc]
theorem inv_after (c : Dev nD) (t : Fin cfg0.N) : (dats m 0 c).Φ t.succ = between m c (t.val + 1) := by
  dsimp only [dats]; simp only [Fin.val_succ]
theorem left_0 (c : Dev nD) (t : Fin cfg0.N) : (dats m 0 c).after 0 t = iblk m c 0 t := by dsimp only [dats]
theorem left_1 (c : Dev nD) (t : Fin cfg0.N) : (dats m 0 c).after 1 t = iblk m c 1 t := by dsimp only [dats]
theorem left_2 (c : Dev nD) (t : Fin cfg0.N) : (dats m 0 c).after 2 t = outAt m c t := by dsimp only [dats]

/-- The windows of the inputs hold their blocks at every point. -/
theorem found_0 (c : Dev nD) (t : Fin cfg0.N) (d) : (dats m 0 c).before 0 t d = iblk m c 0 t :=
  ((dats m 0 c).before_in_eq_fetched 0 rfl (fun _ => rfl) (fun _ _ _ => rfl) (fun t => by
    rw [left_0]; unfold Dat.blockOf iblk; rw [arr_eq]; try rfl) t d).trans (by unfold Dat.fetched Dat.blockOf iblk; rw [arr_eq]; try rfl)
theorem found_1 (c : Dev nD) (t : Fin cfg0.N) (d) : (dats m 0 c).before 1 t d = iblk m c 1 t :=
  ((dats m 0 c).before_in_eq_fetched 1 rfl (fun _ => rfl) (fun _ _ _ => rfl) (fun t => by
    rw [left_1]; unfold Dat.blockOf iblk; rw [arr_eq]; try rfl) t d).trans (by unfold Dat.fetched Dat.blockOf iblk; rw [arr_eq]; try rfl)

/-! ## The body at a point -/

def bodyPre (c : Dev nD) (t : Fin cfg0.N) : sProp 𝕄 :=
  iprop((dats m 0 c).Φ t.castSucc ∗ (dats m 0 c).owesAt () t.castSucc
    ∗ (∃ d, owns (c : Thread nD τ) (st0_0 t) fullShare ((dats m 0 c).before 0 t d))
    ∗ (∃ d, owns (c : Thread nD τ) (st0_1 t) fullShare ((dats m 0 c).before 1 t d))
    ∗ (∃ d, owns (c : Thread nD τ) (st0_2 t) fullShare ((dats m 0 c).before 2 t d)))
def bodyPost (c : Dev nD) (t : Fin cfg0.N) : sProp 𝕄 :=
  iprop((dats m 0 c).Φ t.succ ∗ (dats m 0 c).owesAt () t.succ
    ∗ owns (c : Thread nD τ) (st0_0 t) fullShare ((dats m 0 c).after 0 t)
    ∗ owns (c : Thread nD τ) (st0_1 t) fullShare ((dats m 0 c).after 1 t)
    ∗ owns (c : Thread nD τ) (st0_2 t) fullShare ((dats m 0 c).after 2 t))

set_option maxHeartbeats 1200000 in
/-- At every point the body takes the invariant one point on and stores that point's block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [found_0, found_1]
  rw [left_0, left_1, left_2, inv_before, inv_after]
  unfold Dat.owesAt Pipeline.owesWithin
  rw [show (dats m 0 c).owed t.castSucc = 0 from rfl, show (dats m 0 c).owed t.succ = 0 from rfl]
  unfold between biasAt outAt
  have hN : t.val < 16 := lt_of_lt_of_eq t.isLt (show cfg0.N = 16 from N_0)
  rw [if_neg (Nat.succ_ne_zero t.val)]
  by_cases h0 : t.val = 0
  · have h1 : t.val < 15 := by omega
    rw [if_pos h0, stream_first _ _ _ _ _ _ t.val h0, stream_first _ _ _ _ _ _ t.val h0,
      stream_middle _ _ _ _ _ _ (t.val + 1) (Nat.succ_ne_zero _) (by omega), stream_middle _ _ _ _ _ _ (t.val + 1) (Nat.succ_ne_zero _) (by omega),
      show Ring.sl 2 (t.val + 1 + 1) = Ring.sl 2 t.val from Ring.sl_add 2 t.val]
    iintro ⟨⟨HS, Hg, Hk, Hv⟩, ⟨%W, -, HW⟩, ⟨%d0, H0⟩, ⟨%d1, H1⟩, ⟨%d2, H2⟩⟩
    iapply ((firstRun c t (st0_0 t) (hstage0_0 ((cfg0.slots t 0).cast nbuf0_0)) (st0_1 t) (hstage0_1 ((cfg0.slots t 1).cast nbuf0_1)) (st0_2 t)
      (hstage0_2 ((cfg0.slots t 2).cast nbuf0_2)) biasM (Memref.isWhole_whole _) ((isFirst_iff t).2 h0) ((hasNext_iff t).2 h1)
      (iblk m c 0 t) (iblk m c 1 t) (V m c main_arg1) (V m c main_arg2)).2 W _)
    isplitl [H0]; · iexact H0
    isplitl [H1]; · iexact H1
    isplitl [H2]; · iexists _; iexact H2
    isplitl [HS]; · iexact HS
    isplitl [Hk]; · iexact Hk
    isplitl [Hv]; · iexact Hv
    isplitl [HW]; · iexact HW
    iintro ⟨H0, H1, ⟨%e2, H2⟩, ⟨%e6, H6⟩, Hkb, Hki, Hvb, Hvi, ⟨%W', HW'⟩⟩
    isplitl [H6 Hg Hkb Hki Hvb Hvi]
    · isplitl [H6]
      · unfold owns; iexists _; isplitr; swap; · iexact H6
        ipureintro; exact first_bias c t _ _ _ _ _ _ _ _ _ _ _ _ _ _ _ _
      isplitl [Hg]; · iexact Hg
      isplitl [Hkb Hki]
      · isplitl [Hkb]; · iexact Hkb
        iexact Hki
      isplitl [Hvb]; · iexact Hvb
      iexact Hvi
    isplitl [HW']
    · iexists W'; isplitr; · ipureintro; exact fun _ _ => Or.inl trivial
      iexact HW'
    isplitl [H0]; · iexact H0
    isplitl [H1]; · iexact H1
    unfold owns; iexists _; isplitr; swap; · iexact H2
    ipureintro; exact first_out c t _ _ _ _ _ _ _ _ _ _ _ _ _ _ _ _
  · rw [if_neg h0]
    by_cases h1 : t.val < 15
    · rw [stream_middle _ _ _ _ _ _ t.val h0 hN, stream_middle _ _ _ _ _ _ t.val h0 hN,
        stream_middle _ _ _ _ _ _ (t.val + 1) (Nat.succ_ne_zero _) (by omega), stream_middle _ _ _ _ _ _ (t.val + 1) (Nat.succ_ne_zero _) (by omega),
        show Ring.sl 2 (t.val + 1 + 1) = Ring.sl 2 t.val from Ring.sl_add 2 t.val]
      iintro ⟨⟨HS, Hg, ⟨Hkb, Hki⟩, ⟨Hvb, Hvi⟩⟩, ⟨%W, -, HW⟩, ⟨%d0, H0⟩, ⟨%d1, H1⟩, ⟨%d2, H2⟩⟩
      iapply ((middleRun c t (st0_0 t) (hstage0_0 ((cfg0.slots t 0).cast nbuf0_0)) (st0_1 t) (hstage0_1 ((cfg0.slots t 1).cast nbuf0_1)) (st0_2 t)
        (hstage0_2 ((cfg0.slots t 2).cast nbuf0_2)) biasM (Memref.isWhole_whole _) (fun h => h0 ((isFirst_iff t).1 h)) ((hasNext_iff t).2 h1)
        (iblk m c 0 t) (iblk m c 1 t) (biasOf (colsOf m c)) (V m c main_arg1) (V m c main_arg2)).2 W _)
      isplitl [H0]; · iexact H0
      isplitl [H1]; · iexact H1
      isplitl [H2]; · iexists _; iexact H2
      isplitl [HS]; · iexact HS
      isplitl [Hkb]; · iexact Hkb
      isplitl [Hki]; · iexact Hki
      isplitl [Hvb]; · iexact Hvb
      isplitl [Hvi]; · iexact Hvi
      isplitl [HW]; · iexact HW
      iintro ⟨H0, H1, ⟨%e2, H2⟩, HS, Hkb, Hki, Hvb, Hvi, ⟨%W', HW'⟩⟩
      isplitl [HS Hg Hkb Hki Hvb Hvi]
      · isplitl [HS]; · iexact HS
        isplitl [Hg]; · iexact Hg
        isplitl [Hkb Hki]
        · isplitl [Hkb]; · iexact Hkb
          iexact Hki
        isplitl [Hvb]; · iexact Hvb
        iexact Hvi
      isplitl [HW']
      · iexists W'; isplitr; · ipureintro; exact fun _ _ => Or.inl trivial
        iexact HW'
      isplitl [H0]; · iexact H0
      isplitl [H1]; · iexact H1
      unfold owns; iexists _; isplitr; swap; · iexact H2
      ipureintro; exact middle_out c t _ _ _ _ _ _ _ _ (colsOf m c) _ _ _ _ _ _ _
    · rw [stream_middle _ _ _ _ _ _ t.val h0 hN, stream_middle _ _ _ _ _ _ t.val h0 hN,
        stream_end _ _ _ _ _ _ (t.val + 1) (by omega), stream_end _ _ _ _ _ _ (t.val + 1) (by omega),
        show Ring.sl 2 (t.val + 1 + 1) = Ring.sl 2 t.val from Ring.sl_add 2 t.val]
      iintro ⟨⟨HS, Hg, ⟨Hkb, Hki⟩, ⟨Hvb, Hvi⟩⟩, ⟨%W, -, HW⟩, ⟨%d0, H0⟩, ⟨%d1, H1⟩, ⟨%d2, H2⟩⟩
      iapply ((lastRun c t (st0_0 t) (hstage0_0 ((cfg0.slots t 0).cast nbuf0_0)) (st0_1 t) (hstage0_1 ((cfg0.slots t 1).cast nbuf0_1)) (st0_2 t)
        (hstage0_2 ((cfg0.slots t 2).cast nbuf0_2)) biasM (Memref.isWhole_whole _) (fun h => h0 ((isFirst_iff t).1 h)) (fun h => h1 ((hasNext_iff t).1 h))
        (iblk m c 0 t) (iblk m c 1 t) (biasOf (colsOf m c)) (V m c main_arg1) (V m c main_arg2)).2 W _)
      isplitl [H0]; · iexact H0
      isplitl [H1]; · iexact H1
      isplitl [H2]; · iexists _; iexact H2
      isplitl [HS]; · iexact HS
      isplitl [Hkb]; · iexact Hkb
      isplitl [Hvb]; · iexact Hvb
      isplitl [HW]; · iexact HW
      iintro ⟨H0, H1, ⟨%e2, H2⟩, HS, Hkb, Hvb, ⟨%W', HW'⟩⟩
      isplitl [HS Hg Hkb Hki Hvb Hvi]
      · isplitl [HS]; · iexact HS
        isplitl [Hg]; · iexact Hg
        isplitl [Hkb Hki]
        · isplitl [Hki]; · iexact Hki
          iexact Hkb
        isplitl [Hvi]; · iexact Hvi
        iexact Hvb
      isplitl [HW']
      · iexists W'; isplitr; · ipureintro; exact fun _ _ => Or.inl trivial
        iexact HW'
      isplitl [H0]; · iexact H0
      isplitl [H1]; · iexact H1
      unfold owns; iexists _; isplitr; swap; · iexact H2
      ipureintro; exact last_out c t _ _ _ _ _ _ _ _ (colsOf m c) _ _ _ _ _ _ _

theorem row_eq (t : Fin cfg0.N) : defs₀ (F := F) .tc cfg0.body (cfg0.bodyArgs t (cfg0.slots t)) = bodyAt0 t := by
  unfold defs₀; rw [Defs.onTc_tc]

theorem obligation (c : Dev nD) : BodyObligation (dats (F := F) m 0 c) (defs₀ (F := F)) Variants.none () Set.univ := fun t => by
  rw [bigSep_W0, bigSep_W0, row_eq]
  exact triple_restated (sound_body m c t) rfl .rfl fun _ => .rfl

/-! ## In and out of the launch -/

theorem into (c : Dev nD) : Pipeline.ΦD ownCells spec0 copied (V m) c ⊢ (dats m 0 c).Φ 0 := by
  rw [launch_eq, show (dats m 0 c).Φ 0 = between m c 0 from rfl]
  unfold between biasAt
  rw [if_pos rfl]
  iintro ⟨⟨HS, HK, HV⟩, Hg, ⟨H5, H6, H7, H8⟩, ⟨Hk, Hv⟩⟩
  isplitl [HS]; · iexact HS
  isplitl [Hg]; · iexact Hg
  isplitl [HK H5 H7 Hk]
  · iapply (stream_in c kB kA 0 (V m c main_arg1) (fun _ => zeroE) (Memref.isWhole_whole _))
    isplitl [HK]; · iexact HK
    isplitl [H5 H7]
    · isplitl [H5]; · iexact H5
      iexact H7
    iexact Hk
  iapply (stream_in c vB vA 1 (V m c main_arg2) (fun _ => zeroE) (Memref.isWhole_whole _))
  isplitl [HV]; · iexact HV
  isplitl [H6 H8]
  · isplitl [H6]; · iexact H6
    iexact H8
  iexact Hv

theorem outof (c : Dev nD) : (dats m 0 c).Φ (Fin.last cfg0.N) ⊢ Pipeline.ΦD ownCells spec0 copied (V m) c := by
  rw [launch_eq, show (dats m 0 c).Φ (Fin.last cfg0.N) = between m c grid0.N from rfl, N_0]
  unfold between biasAt
  rw [if_neg (by decide)]
  iintro ⟨HS, Hg, Hk, Hv⟩
  ihave Hk' := (stream_out c kB kA 0 (V m c main_arg1) (fun _ => zeroE) (Memref.isWhole_whole _)) $$ Hk
  icases Hk' with ⟨HK, ⟨H5, H7⟩, Hk⟩
  ihave Hv' := (stream_out c vB vA 1 (V m c main_arg2) (fun _ => zeroE) (Memref.isWhole_whole _)) $$ Hv
  icases Hv' with ⟨HV, ⟨H6, H8⟩, Hv⟩
  isplitl [HS HK HV]
  · isplitl [HS]; · iexists _; iexact HS
    isplitl [HK]; · iexact HK
    iexact HV
  isplitl [Hg]; · iexact Hg
  isplitl [H5 H6 H7 H8]
  · isplitl [H5]; · iexact H5
    isplitl [H6]; · iexact H6
    isplitl [H7]; · iexact H7
    iexact H8
  isplitl [Hk]; · iexact Hk
  iexact Hv

/-! ## The run -/

set_option maxHeartbeats 800000 in
theorem host_part (𝒱₀ : Variants) :
    Pipeline.HMain (Ix := Unit) (Name := ℕ) (U := Pipeline.UD sig nD τ) (Lvl := ℕ) cfgs 0 defs₀ 𝒱₀ m (main (F := F)) (V m) :=
  Pipeline.hmain_prefix cfgs 0 defs₀ 𝒱₀ m main hostOps0 hostOps0_sub hostOps0_fresh main_chain

set_option backward.isDefEq.respectTransparency.types false in
/-- Every execution ends, with the arrays at what the points leave and every counter at zero. -/
theorem run_both : θ_run defs (onTc (τ := τ) (main (F := F))) (s₀ m ρ)
    (fun r => (Pipeline.FramePost cfgs (dats m) 0 (V m)) r ∧ r.2.sem = fun _ => 0) :=
  Pipeline.θ_run_frame_dma (Q' := _) cfgs (dats m) (0 : Fin 1) launch0 ownCells defs₀ Variants.none ownCells_facts copied copied_sub m ρ main
    (hbody := fun c => (obligation m c).loose) (hshare := fun c => (dats m 0 c).share_full fun _ => rfl)
    (howed := fun _ _ => rfl) (V := V m) (hmain := host_part m Variants.none) (hA := arr_eq m)
    (hin := into m) (hout := outof m)

theorem run_values : θ_run defs (onTc (τ := τ) (main (F := F))) (s₀ m ρ) (Pipeline.FramePost cfgs (dats m) 0 (V m)) :=
  (θ_run defs _ _).mono (fun _ h => h.1) (run_both m ρ)

/-- What a run that ends so leaves in the arguments. -/
theorem args_kept {r : PUnit × MemSt nD τ sig (Elt F)} (h : Pipeline.FramePost cfgs (dats m) 0 (V m) r) (c : Dev nD) :
    r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7) :=
  have rest (b : Ref sig .tc) (hb : b ∈ Pipeline.restRefs sig spec0) := (h c).2 b hb
  ⟨((h c).1 1).trans (((dats m 0 c).arrAt_in 1 rfl _).trans ((arr_eq m c 1).trans (V_main_arg0 m c))),
    (rest main_arg1 (by decide)).trans (V_main_arg1 m c), (rest main_arg2 (by decide)).trans (V_main_arg2 m c),
    (rest main_arg3 (by decide)).trans (V_main_arg3 m c), (rest main_arg4 (by decide)).trans (V_main_arg4 m c),
    (rest main_arg5 (by decide)).trans (V_main_arg5 m c), (rest main_arg6 (by decide)).trans (V_main_arg6 m c),
    (rest main_arg7 (by decide)).trans (V_main_arg7 m c)⟩

/-- The frame: the arguments end as they began, and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) :=
  (θ_run defs _ _).mono (fun _ h => ⟨args_kept m h.1, h.2⟩) (run_both m ρ)

end Cert.KernelIdeal.Band

end
-- ==== Proof.Kernel.Frame.lean ====
/- The frame of the kernel as printed. It is the idealized program read with the mask constant at its own bits, so its frame is
   the idealized one's at that reading. -/
module

public import proofs.«01_k».proof.Proof.KernelIdeal.Frame
public import proofs.«01_k».proof.Proof.Gen.Kernel

@[expose] public section

noncomputable section

namespace Cert.Kernel.Band

open Idealize.ShloMosaic Idealize.SL.Sem Cert.Kernel Cert.Kernel.Gen

variable {F : FTy → Type} [FloatOps F]

/-- The reading at which a named constant is its own bits. -/
abbrev plain : Named F where
  named _ _ _ bits := Scalar.ofBits _ bits

section
attribute [local instance] plain

theorem body_eq : cc0__attn_kernel (F := F) = Cert.KernelIdeal.cc0__attn_kernel (F := F) := rfl
theorem table_eq : (defs₀ (F := F)) = Cert.KernelIdeal.defs₀ (F := F) :=
  congrArg Defs.onTc (funext fun l => funext fun x => match l, x with
    | 0, _ => rfl
    | ⟨_ + 1, h⟩, _ => absurd h (Nat.not_lt.2 (Nat.le_add_left _ _)))
theorem main_eq : (main (F := F)) = Cert.KernelIdeal.main (F := F) := rfl
theorem defs_eq : (defs (F := F)) = Cert.KernelIdeal.defs (F := F) := congrArg (Pipeline.defs (pcfgs (F := F))) table_eq

/-- The frame: the arguments end as they began, and every counter at zero. -/
theorem frame (m : (ℓ : Loc nD τ sig) → Buf (Elt F) ℓ) (ρ : Dev nD → PrngReg) :
    θ_run (defs (F := F)) (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7))
      ∧ r.2.sem = fun _ => 0) := by
  rw [defs_eq]
  exact Cert.KernelIdeal.Band.frame (F := F) m ρ
end

end Cert.Kernel.Band

end
-- ==== Proof.Value.Softmax.lean ====
/- The softmax of real logits against arbitrary values: dividing the sum once, or each weight by its sum after the maximum is
   taken off, gives the same extended real. -/
module

public import Idealize.ShloMosaic.PureOps.Ideal
public import Idealize.ShloMosaic.PureOps.Ideal.Laws

@[expose] public section

noncomputable section

namespace Cert.Band

open Idealize.ShloMosaic
open scoped BigOperators

/-- A finite sum of real numbers is the real number that sums them. -/
theorem coe_sum {n : ℕ} (f : Fin n → ℝ) : (∑ j, (f j : EReal)) = ((∑ j, f j : ℝ) : EReal) :=
  (map_sum (⟨⟨Real.toEReal, EReal.coe_zero⟩, EReal.coe_add⟩ : ℝ →+ EReal) f Finset.univ).symm

/-- A real factor that is not negative goes into a sum of extended reals. -/
theorem mul_sum_coe {n : ℕ} (r : ℝ) (hr : 0 ≤ r) (f : Fin n → EReal) : (r : EReal) * (∑ j, f j) = ∑ j, (r : EReal) * f j := by
  classical
  induction (Finset.univ : Finset (Fin n)) using Finset.induction_on with
  | empty => simp
  | insert a s ha ih =>
    rw [Finset.sum_insert ha, Finset.sum_insert ha,
      EReal.left_distrib_of_nonneg_of_ne_top (EReal.coe_nonneg.2 hr) (EReal.coe_ne_top r), ih]

/-- The maximum of finitely many real numbers, from minus infinity, is one of them. -/
theorem fold_max_mem {n : ℕ} (h : 0 < n) (L : Fin n → ℝ) :
    ∃ m : ℝ, (Finset.univ : Finset (Fin n)).fold max (⊥ : EReal) (fun j => (L j : EReal)) = m := by
  classical
  have key (s : Finset (Fin n)) : s.fold max (⊥ : EReal) (fun j => (L j : EReal)) = ⊥ ∧ s = ∅
      ∨ ∃ m : ℝ, s.fold max (⊥ : EReal) (fun j => (L j : EReal)) = m := by
    induction s using Finset.induction_on with
    | empty => exact Or.inl ⟨by simp, rfl⟩
    | insert a s ha ih =>
      refine Or.inr ?_
      rw [Finset.fold_insert ha]
      rcases ih with ⟨e, -⟩ | ⟨m, e⟩
      · exact ⟨L a, by rw [e]; exact max_bot_right _⟩
      · exact ⟨max (L a) m, by rw [e]; exact (EReal.coe_strictMono.monotone.map_max).symm⟩
  rcases key Finset.univ with ⟨-, e⟩ | h'
  · exact absurd (Finset.mem_univ (⟨0, h⟩ : Fin n)) (by rw [e]; exact Finset.notMem_empty _)
  · exact h'

/-- The two forms of the weighted sum. -/
theorem softmax_eq {n : ℕ} (h : 0 < n) (L : Fin n → ℝ) (v : Fin n → EReal) :
    (∑ j, Ideal.exp (L j) * v j) * Ideal.div 1 (∑ j, Ideal.exp (L j))
      = ∑ j, Ideal.div (Ideal.exp ((L j : EReal) - max ⊥ ((Finset.univ : Finset (Fin n)).fold max (⊥ : EReal) (fun j => (L j : EReal)))))
          (∑ k, Ideal.exp ((L k : EReal) - max ⊥ ((Finset.univ : Finset (Fin n)).fold max (⊥ : EReal) (fun j => (L j : EReal))))) * v j := by
  obtain ⟨m, hm⟩ := fold_max_mem h L
  rw [hm, max_eq_right bot_le]
  have e1 (j : Fin n) : Ideal.exp ((L j : EReal) - m) = (Real.exp (L j - m) : EReal) := by rw [← EReal.coe_sub]; rfl
  have e2 (j : Fin n) : Ideal.exp (L j) = (Real.exp (L j) : EReal) := rfl
  haveI : Nonempty (Fin n) := ⟨⟨0, h⟩⟩
  have p1 : 0 < ∑ j, Real.exp (L j) := Finset.sum_pos (fun j _ => Real.exp_pos _) Finset.univ_nonempty
  have p2 : 0 < ∑ j, Real.exp (L j - m) := Finset.sum_pos (fun j _ => Real.exp_pos _) Finset.univ_nonempty
  simp only [e1, e2, coe_sum]
  rw [Ideal.div_coe p1.ne', one_mul, mul_comm, mul_sum_coe _ (by positivity)]
  refine Finset.sum_congr rfl fun j _ => ?_
  rw [Ideal.div_coe p2.ne', ← mul_assoc, ← EReal.coe_mul, ← EReal.coe_mul]
  congr 2
  have e3 : ∑ k, Real.exp (L k - m) = (∑ k, Real.exp (L k)) * Real.exp (-m) := by
    rw [Finset.sum_mul]
    exact Finset.sum_congr rfl fun k _ => by rw [← Real.exp_add]; ring_nf
  rw [e3, sub_eq_add_neg, Real.exp_add]
  have p3 := (Real.exp_pos (-m)).ne'
  have p4 := p1.ne'
  field_simp

end Cert.Band

end
-- ==== Proof.Value.Inputs.lean ====
/- What the precondition says of the arguments: the columns of a row follow one another from a first column near the row's
   block, and the queries and the keys are real numbers. -/
module

public import proofs.«01_k».proof.Pre_banded_and_finite
public import proofs.«01_k».proof.Proof.Value.Softmax
public import Idealize.ShloMosaic.Lib.Pointwise
public import Idealize.ShloMosaic.Lib.ReduceAll
public import Idealize.ShloMosaic.Lib.Affine
public import Idealize.ShloMosaic.Lib.Decide

@[expose] public section

noncomputable section

namespace Cert.Band

open Idealize.ShloMosaic
open scoped BigOperators

/-- The arguments as the two programs take them: `f` holds the first column of each row, `Q` and `K` the queries and keys. -/
structure Inputs (q k : (⟨3, ![16, 2048, 64]⟩ : Shape).Idx → EReal) (a6 : (⟨1, ![131072]⟩ : Shape).Idx → BitVec 32)
    (f : Fin 2048 → ℕ) (Q K : Fin 16 → Fin 2048 → Fin 64 → ℝ) : Prop where
  col (i : Fin 2048) (j : Fin 64) : a6 (ix1 ⟨i.val * 64 + j.val, by omega⟩) = BitVec.ofNat 32 (f i + j.val)
  low (i : Fin 2048) : 512 * (i.val / 512) ≤ f i + 32
  high (i : Fin 2048) : f i ≤ 512 * (i.val / 512) + 544
  last (i : Fin 2048) : f i ≤ 1984
  query (a : Fin 16) (i : Fin 2048) (l : Fin 64) : q (ix3 a i l) = Q a i l
  key (a : Fin 16) (i : Fin 2048) (l : Fin 64) : k (ix3 a i l) = K a i l

section Rows
variable {q k : (⟨3, ![16, 2048, 64]⟩ : Shape).Idx → EReal} {a6 : (⟨1, ![131072]⟩ : Shape).Idx → BitVec 32} {f : Fin 2048 → ℕ}
  {Q K : Fin 16 → Fin 2048 → Fin 64 → ℝ}

/-- The row that column `j` of query row `i` names. -/
def near (h : Inputs q k a6 f Q K) (i : Fin 2048) (j : Fin 64) : Fin 2048 := ⟨f i + j.val, by have := h.last i; omega⟩

/-- The logit of query row `i` and its column `j`. -/
def logit (h : Inputs q k a6 f Q K) (a : Fin 16) (i : Fin 2048) (j : Fin 64) : ℝ := ∑ l, Q a i l * K a (near h i j) l

/-- The product of a query and the key of its column is that real number. -/
theorem dot_eq (h : Inputs q k a6 f Q K) (a : Fin 16) (i : Fin 2048) (j : Fin 64) :
    ∑ l, q (ix3 a i l) * k (ix3 a (near h i j) l) = logit h a i j := by
  unfold logit
  rw [← coe_sum]
  exact Finset.sum_congr rfl fun l _ => by rw [h.query, h.key, EReal.coe_mul]

end Rows

/-- A test's word is 1 exactly when the test holds. -/
theorem ofBool_one {b : Bool} : BitVec.ofBool b = 1#1 ↔ b = true := by cases b <;> decide

/-- An extended real between the two infinities is a real number. -/
theorem real_of_bounds {x : EReal} (h : IntOp.andi (BitVec.ofBool (decide (x < Ideal.ofBits .f32 2139095040#32)))
    (BitVec.ofBool (decide (-Ideal.ofBits .f32 2139095040#32 < x))) = 1#1) : x = (x.toReal : EReal) := by
  have e : Ideal.ofBits .f32 2139095040#32 = ⊤ := by simp [Ideal.ofBits, Ideal.ieee]
  obtain ⟨h1, h2⟩ := IntOp.andi_eq_one.1 h
  rw [e, ofBool_one, decide_eq_true_eq] at h1 h2
  exact (EReal.coe_toReal h1.ne (by rintro rfl; simp at h2)).symm

/-- A word between two small bounds, both read signed, is the number it encodes. -/
theorem word_bounds {x a b : BitVec 32} {lo hi : ℕ} (hlo : lo < 2 ^ 31) (hhi : hi < 2 ^ 31) (h1 : a.toInt ≤ x.toInt)
    (h2 : x.toInt ≤ b.toInt) (ha : a = BitVec.ofNat 32 lo) (hb : b = BitVec.ofNat 32 hi) : lo ≤ x.toNat ∧ x.toNat ≤ hi := by
  subst ha hb
  have e1 : (BitVec.ofNat 32 lo).toInt = lo := by rw [BitVec.toInt_eq_toNat_of_lt] <;> simp <;> omega
  have e2 : (BitVec.ofNat 32 hi).toInt = hi := by rw [BitVec.toInt_eq_toNat_of_lt] <;> simp <;> omega
  rw [e1] at h1
  rw [e2] at h2
  have := x.isLt
  rw [BitVec.toInt_eq_toNat_cond] at h1 h2
  split at h1 <;> omega

end Cert.Band

namespace Cert.Pre_banded_and_finite

open Idealize.ShloMosaic Facts

instance facts : Facts where
  shapeCasts_S131072_S2048x64 := by decide
  slices_S2048x64_S2048x1_0_0 := by decide
  bcast_S2048_S2048x1_0 := by decide
  bcast_S_S2048x1 := by decide
  bcast_S64_S1x64_1 := by decide
  bcast_S2048x1_S2048x64_0_1 := by decide
  bcast_S1x64_S2048x64_0_1 := by decide
  bcast_S_S16x2048x64 := by decide
  reducesTo_S16x2048x64_S_d0_1_2 := by decide
  h_S_ := by decide
  reducesTo_S2048x64_S_d0_1 := by decide

/-- The block of 512 rows that a row lies in. -/
theorem block_apply (i : Fin 2048) :
    fn_floor_divide (F := Ideal) (broadcastInDim S2048x1 ![0] bcast_S2048_S2048x1_0 (iotaInDim S2048 32 0)) (constantI S_ 32 512#32) (ix2 i 0)
      = BitVec.ofNat 32 (i.val / 512) := by
  simp only [pointwise, fn_floor_divide, fn_where, Nat.reduceEqDiff, dite_false, id]
  revert i
  decide +kernel

/-- The least first column of a row. -/
theorem lowest (i : Fin 2048) : IntOp.maxsi (IntOp.subi (IntOp.muli 512#32 (BitVec.ofNat 32 (i.val / 512))) 32#32) 0#32
    = BitVec.ofNat 32 (512 * (i.val / 512) - 32) := by
  revert i
  decide +kernel

/-- The greatest first column of a row. -/
theorem highest (i : Fin 2048) : IntOp.minsi (IntOp.addi (IntOp.muli 512#32 (BitVec.ofNat 32 (i.val / 512))) 544#32) 1984#32
    = BitVec.ofNat 32 (min (512 * (i.val / 512) + 544) 1984) := by
  revert i
  decide +kernel

theorem inputs (q k v : FVec Ideal S16x2048x64 .f32) (a3 : FVec Ideal S131072 .f32) (a4 : IVec S2048 32) (a5 : IVec S2049 32)
    (a6 : IVec S131072 32) (a7 : IVec S1 32) (h : fn (F := Ideal) q k v a3 a4 a5 a6 a7 = fun _ => 1#1) :
    ∃ (f : Fin 2048 → ℕ) (Q K : Fin 16 → Fin 2048 → Fin 64 → ℝ), Cert.Band.Inputs q k a6 f Q K := by
  have h0 := congrFun h (fun a => a.elim0)
  unfold fn fn_part1 fn_part2 at h0
  obtain ⟨hb, hf⟩ := IntOp.andi_eq_one.1 h0
  obtain ⟨hq, hk⟩ := IntOp.andi_eq_one.1 hf
  have hb' (i : Fin 2048) (j : Fin 64) := Host.reduce_andi_all _ _ _ _ _ hb (ix2 i j)
  have hq' (a : Fin 16) (i : Fin 2048) (j : Fin 64) := Host.reduce_andi_all _ _ _ _ _ hq (ix3 a i j)
  have hk' (a : Fin 16) (i : Fin 2048) (j : Fin 64) := Host.reduce_andi_all _ _ _ _ _ hk (ix3 a i j)
  clear hb hf hq hk h0
  simp only [pointwise] at hq' hk'
  simp only [pointwise, Nat.reduceEqDiff, OfNat.ofNat_ne_one, ↓reduceDIte, Fin.val_zero, Fin.zero_eta, Matrix.cons_val_zero, Nat.zero_add, Nat.add_zero, Fin.val_zero,
    IntOp.andi_eq_one, IntOp.cmpi_eq, IntOp.cmpi_sge, IntOp.cmpi_sle] at hb'
  have hl (i : Fin 2048) : 512 * (i.val / 512) - 32 < 2 ^ 31 := by omega
  have hh (i : Fin 2048) : min (512 * (i.val / 512) + 544) 1984 < 2 ^ 31 := by omega
  have hw (i : Fin 2048) := Cert.Band.word_bounds (hl i) (hh i) (hb' i 0).1.2 (hb' i 0).2
    ((congrArg (fun z => IntOp.maxsi (IntOp.subi (IntOp.muli 512#32 z) 32#32) 0#32) (block_apply i)).trans (lowest i))
    ((congrArg (fun z => IntOp.minsi (IntOp.addi (IntOp.muli 512#32 z) 544#32) 1984#32) (block_apply i)).trans (highest i))
  refine ⟨fun i => (a6 (ix1 ⟨i.val * 64, by omega⟩)).toNat, fun a i l => (q (ix3 a i l)).toReal, fun a i l => (k (ix3 a i l)).toReal,
    fun i j => (hb' i j).1.1.trans ?_, fun i => ?_, fun i => ?_, fun i => ?_, fun a i l => Cert.Band.real_of_bounds (hq' a i l),
    fun a i l => Cert.Band.real_of_bounds (hk' a i l)⟩
  · show _ + _ = _
    rw [BitVec.ofNat_add, BitVec.ofNat_toNat, BitVec.setWidth_eq]
  · have := (hw i).1; omega
  · have := (hw i).2; omega
  · have := (hw i).2; omega

end Cert.Pre_banded_and_finite

end
-- ==== Proof.Value.Block.lean ====
/- One row of the kernel's output block: off the row's 64 columns the bias is minus infinity, so the exponential is zero there, and
   the sums over the 640 columns that the sub-block reads are sums over the 64. -/
module

public import proofs.«01_k».proof.Proof.KernelIdeal.Pieces
public import proofs.«01_k».proof.Proof.Value.Inputs
public import Idealize.ShloMosaic.Lib.FinSumWindow

@[expose] public section

noncomputable section

namespace Cert.KernelIdeal.Band

open Idealize.ShloMosaic Cert.KernelIdeal Cert.KernelIdeal.Gen
open scoped BigOperators

theorem subBlk_apply (q : Vec Ideal S1x512x64 .f32) (k v : Vec Ideal S1x640x64 .f32) (b : Vec Ideal S1x512x640 .f32) (r : Fin 512) (d : Fin 64) :
    subBlk (F := Ideal) q k v b (ix3 0 r d)
      = (∑ c : Fin 640, Ideal.exp (∑ l : Fin 64, q (ix3 0 r l) * k (ix3 0 c l) + b (ix3 0 r c)) * v (ix3 0 c d))
        * Ideal.div 1 (∑ c : Fin 640, Ideal.exp (∑ l : Fin 64, q (ix3 0 r l) * k (ix3 0 c l) + b (ix3 0 r c))) := by
  pointwise [subBlk, k0_pay7, k0_pay8, k0_pay9]

/-- The number of column `c` of sub-block `s`'s 640. -/
theorem col_toInt (s : Fin 4) (c : Fin 640) : (IntOp.addi (colBase s) (BitVec.ofNat 32 c.val)).toInt = 512 * (s.val : ℤ) + c.val - 32 := by
  revert s c
  decide +kernel

theorem biasBlk_apply (s : Fin 4) (x : Vec Ideal S1x512x1 .i32) (n : ℕ) (hn : n ≤ 1984) (r : Fin 512)
    (hx : x (ix3 0 r 0) = BitVec.ofNat 32 n) (c : Fin 640) :
    biasBlk (F := Ideal) (colBase s) x (ix3 0 r c) = if n + 32 ≤ 512 * s.val + c.val ∧ 512 * s.val + c.val < n + 96 then 0 else ⊥ := by
  have e : biasBlk (F := Ideal) (colBase s) x (ix3 0 r c) = Scalar.select
      (IntOp.andi (IntOp.cmpi .sge (IntOp.addi (colBase s) (BitVec.ofNat 32 c.val)) (x (ix3 0 r 0)))
        (IntOp.cmpi .slt (IntOp.addi (colBase s) (BitVec.ofNat 32 c.val)) (IntOp.addi (x (ix3 0 r 0)) 64#32)))
      0 (Named.named κ "mask" 0xF149F2CA#32) := by
    pointwise [biasBlk]
  have t (m : ℕ) (hm : m < 2 ^ 31) : (BitVec.ofNat 32 m).toInt = m := by rw [BitVec.toInt_eq_toNat_of_lt] <;> simp <;> omega
  have p : IntOp.addi (BitVec.ofNat 32 n) 64#32 = BitVec.ofNat 32 (n + 64) := (BitVec.ofNat_add n 64).symm
  have m : (Named.named κ "mask" 0xF149F2CA#32 : Ideal .f32) = (⊥ : EReal) := rfl
  rw [e, hx, p, m, Scalar.select]
  refine ite_congr (propext ?_) (fun _ => rfl) (fun _ => rfl)
  rw [show (1 : BitVec 1) = 1#1 from rfl, IntOp.andi_eq_one, IntOp.cmpi_sge, IntOp.cmpi_slt, col_toInt, t _ (by omega), t _ (by omega)]
  omega

/-- A row of a slot that holds data. -/
theorem sWin_apply (x : Vec Ideal S16x2048x64 .f32) (b : Fin 16) (s : Fin 4) (c : Fin 640) (n : Fin 2048) (h : 512 * s.val + c.val = n.val + 32) (l : Fin 64) :
    sWin (F := Ideal) x b s (ix3 0 c l) = x (ix3 b n l) := by
  show slotVal x b (ValueIdx.ix3 0 ⟨512 * s.val + c.val, _⟩ l) = _
  unfold slotVal
  rw [dif_pos ⟨by show 32 ≤ 512 * s.val + c.val; omega, by show 512 * s.val + c.val < 2080; omega⟩]
  congr 1
  funext a
  match a with
  | ⟨0, _⟩ => rfl
  | ⟨1, _⟩ => exact Fin.ext (by show 512 * s.val + c.val - 32 = n.val; omega)
  | ⟨2, _⟩ => rfl

variable {q k : (⟨3, ![16, 2048, 64]⟩ : Shape).Idx → EReal} {a6 : (⟨1, ![131072]⟩ : Shape).Idx → BitVec 32} {f : Fin 2048 → ℕ}
  {Q K : Fin 16 → Fin 2048 → Fin 64 → ℝ}

open Cert.Band (near logit)

/-- Row `i`, lane `d` of head `b`'s output block. -/
theorem blkOut_apply (h : Cert.Band.Inputs q k a6 f Q K) (v : Vec Ideal S16x2048x64 .f32) (b : Fin 16) (x0 : Vec Ideal S1x2048x64 .i32)
    (x1 : Vec Ideal S1x2048x64 .f32) (h0 : ∀ i : Fin 2048, x0 (ix3 0 i 0) = BitVec.ofNat 32 (f i))
    (h1 : ∀ (i : Fin 2048) (l : Fin 64), x1 (ix3 0 i l) = q (ix3 b i l)) (i : Fin 2048) (d : Fin 64) :
    blkOut (F := Ideal) x0 x1 k v b (ix3 0 i d)
      = (∑ j, Ideal.exp (logit h b i j) * v (ix3 b (near h i j) d)) * Ideal.div 1 (∑ j, Ideal.exp (logit h b i j)) := by
  obtain ⟨s, r, hs, hr, e⟩ : ∃ (s : Fin 4) (r : Fin 512), s.val = i.val / 512 ∧ r.val = i.val % 512
      ∧ blkOut (F := Ideal) x0 x1 k v b (ix3 0 i d)
        = subBlk (F := Ideal) (qWin (F := Ideal) x1 s) (sWin (F := Ideal) k b s) (sWin v b s) (bWin (biasOf x0) s) (ix3 0 r d) :=
    ⟨⟨i.val / 512, by omega⟩, ⟨i.val % 512, Nat.mod_lt _ (by decide)⟩, rfl, rfl, rfl⟩
  have ri : (⟨512 * s.val + r.val, by omega⟩ : Fin 2048) = i := Fin.ext (by show 512 * s.val + r.val = i.val; omega)
  have low := h.low i
  have high := h.high i
  have last := h.last i
  have c0 : cWin (F := Ideal) x0 s (ix3 0 r 0) = BitVec.ofNat 32 (f i) := by
    show x0 (ValueIdx.ix3 0 ⟨512 * s.val + r.val, _⟩ 0) = _
    rw [ri]; exact h0 i
  have q0 (l : Fin 64) : qWin (F := Ideal) x1 s (ix3 0 r l) = q (ix3 b i l) := by
    show x1 (ValueIdx.ix3 0 ⟨512 * s.val + r.val, _⟩ l) = _
    rw [ri]; exact h1 i l
  rw [e, subBlk_apply, bWin_biasOf]
  simp only [biasBlk_apply s _ _ last r c0, q0]
  -- the exponential of one column: zero off the window, the logit's in it
  have off (c : Fin 640) (hc : ¬(f i + 32 - 512 * s.val ≤ c.val ∧ c.val < f i + 32 - 512 * s.val + 64)) :
      Ideal.exp (∑ l : Fin 64, q (ix3 b i l) * sWin (F := Ideal) k b s (ix3 0 c l)
        + if f i + 32 ≤ 512 * s.val + c.val ∧ 512 * s.val + c.val < f i + 96 then 0 else ⊥) = 0 := by
    rw [if_neg (by omega), EReal.add_bot, Ideal.exp_bot]
  have data (x : Vec Ideal S16x2048x64 .f32) (j l : Fin 64) :
      sWin (F := Ideal) x b s (ix3 0 ⟨f i + 32 - 512 * s.val + j.val, by omega⟩ l) = x (ix3 b (near h i j) l) :=
    sWin_apply x b s _ _ (by show 512 * s.val + (f i + 32 - 512 * s.val + j.val) = f i + j.val + 32; omega) l
  have on (j : Fin 64) :
      Ideal.exp (∑ l : Fin 64, q (ix3 b i l) * sWin (F := Ideal) k b s (ix3 0 ⟨f i + 32 - 512 * s.val + j.val, by omega⟩ l)
        + if f i + 32 ≤ 512 * s.val + (f i + 32 - 512 * s.val + j.val) ∧ 512 * s.val + (f i + 32 - 512 * s.val + j.val) < f i + 96 then 0 else ⊥)
        = Ideal.exp (logit h b i j) := by
    rw [if_pos (by omega), add_zero]
    simp only [data]
    rw [Cert.Band.dot_eq h]
  rw [FinSumWindow.sum_window (f i + 32 - 512 * s.val) (by omega : _ + 64 ≤ 640) _ (fun c hc => by rw [off c hc, zero_mul]),
    FinSumWindow.sum_window (f i + 32 - 512 * s.val) (by omega : _ + 64 ≤ 640) _ (fun c hc => off c hc)]
  simp only [on]
  simp only [data]

end Cert.KernelIdeal.Band

end
-- ==== Proof.Value.Gather.lean ====
/- The reference's gather of rows, read at one element. -/
module

public import proofs.«01_k».proof.Proof.Gen.ReferenceIdeal
public import Idealize.ShloMosaic.Lib.ValueIdxCore
public import Idealize.ShloMosaic.Lib.Pointwise

@[expose] public section

noncomputable section

namespace Cert.ReferenceIdeal.Band

open Idealize.ShloMosaic Cert.ReferenceIdeal

/-- The gather of the rows that an index names, read at one element: the row, its number clamped, of the head and lane asked for. -/
theorem gather_apply {α : Type} (x : S16x2048x64.Idx → α) (idx : IVec S2048x64x1 32) (a : Fin 16) (i : Fin 2048) (j d : Fin 64) :
    Host.gather gather_S16x2048x64_S2048x64x1_S16x2048x64x64_03_1_n_n_1_2_16164 x idx (ix4 a i j d)
      = x (ix3 a ⟨min (idx (ix3 i j 0)).toInt.toNat 2047, by omega⟩ d) := by
  let D := gather_S16x2048x64_S2048x64x1_S16x2048x64x64_03_1_n_n_1_2_16164
  unfold Host.gather
  congr 1
  funext e
  refine Fin.ext ?_
  show D.start (ix4 a i j d) idx e + D.batchCoord (ix4 a i j d) e + D.offCoord (ix4 a i j d) e = _
  rw [GatherDims.batchCoord_eq_zero _ _ _ List.not_mem_nil, Nat.add_zero]
  match e with
  | ⟨0, _⟩ =>
    have h : D.start (ix4 a i j d) idx ⟨0, by decide⟩ = 0 := by
      unfold GatherDims.start; rw [dif_neg (by decide)]
    exact (congrArg (· + _) h).trans ((Nat.zero_add _).trans rfl)
  | ⟨2, _⟩ =>
    have h : D.start (ix4 a i j d) idx ⟨2, by decide⟩ = 0 := by
      unfold GatherDims.start; rw [dif_neg (by decide)]
    exact (congrArg (· + _) h).trans ((Nat.zero_add _).trans rfl)
  | ⟨1, _⟩ =>
    rw [GatherDims.offCoord_eq_zero _ _ _ (fun h => ((GatherDims.mem_sKept _ _).mp h).1 (List.mem_singleton.mpr rfl)), Nat.add_zero]
    unfold GatherDims.start
    rw [dif_pos (show (⟨1, by decide⟩ : Fin S16x2048x64.rank) ∈ D.startIndexMap from List.mem_singleton.mpr rfl)]
    have hsi : D.siIdx (ix4 a i j d) ⟨List.idxOf (1 : Fin 3) D.startIndexMap, List.idxOf_lt_length_iff.2 (List.mem_singleton.mpr rfl)⟩
        = ix3 i j 0 := by
      funext b; refine Fin.ext ?_
      match b with
      | ⟨0, _⟩ => rfl
      | ⟨1, _⟩ => rfl
      | ⟨2, _⟩ => rfl
    exact congrArg (fun z => min (idx z).toInt.toNat 2047) hsi

end Cert.ReferenceIdeal.Band

end
-- ==== Proof.Value.Rows.lean ====
/- The reference's result read at one element: the softmax of the row's logits against the rows of values that its columns name. -/
module

public import proofs.«01_k».proof.Proof.Gen.ReferenceIdeal.Run
public import Idealize.ShloMosaic.Lib.Pointwise
public import proofs.«01_k».proof.Proof.Value.Gather
public import proofs.«01_k».proof.Proof.Value.Inputs
public import proofs.«01_k».proof.Proof.Value.Softmax

@[expose] public section

noncomputable section

namespace Cert.ReferenceIdeal.Band

open Idealize.ShloMosaic Cert.ReferenceIdeal Cert.ReferenceIdeal.Facts₀
open scoped BigOperators

/-- The columns, one row of the index per query. -/
def cols (a6 : IVec S131072 32) : IVec S2048x64 32 := shapeCast _ a6 shapeCasts_S131072_S2048x64

/-- The row numbers that the gather takes: a negative column counts from the end. -/
def rowIx (a6 : IVec S131072 32) : IVec S2048x64x1 32 :=
  broadcastInDim S2048x64x1 ![0, 1] bcast_S2048x64_S2048x64x1_0_1 (select (cmpi .slt (cols a6) (broadcastInDim S2048x64 ![] bcast_S_S2048x64 (constantI S_ 32 0#32))) (addi (cols a6) (broadcastInDim S2048x64 ![] bcast_S_S2048x64 (constantI S_ 32 2048#32))) (cols a6))

/-- The rows of `x` that the columns name. -/
def rows (x : FVec Ideal S16x2048x64 .f32) (a6 : IVec S131072 32) : FVec Ideal S16x2048x64x64 .f32 :=
  select (broadcastInDim S16x2048x64x64 ![1, 2] bcast_S2048x64_S16x2048x64x64_1_2 (Host.reduce IntOp.andi (andi (cmpi .sge (rowIx a6) (broadcastInDim S2048x64x1 ![] bcast_S_S2048x64x1 (constantI S_ 32 0#32))) (cmpi .sle (rowIx a6) (broadcastInDim S2048x64x1 ![0, 1, 2] bcast_S1x1x1_S2048x64x1_0_1_2 (broadcastInDim S1x1x1 ![2] bcast_S1_S1x1x1_2 (constantI S1 32 2047#32))))) (constantI S_ 1 1#1) reducesTo_S2048x64x1_S2048x64_d2 h_S_)) (Host.gather gather_S16x2048x64_S2048x64x1_S16x2048x64x64_03_1_n_n_1_2_16164 x (rowIx a6)) (broadcastInDim S16x2048x64x64 ![] bcast_S_S16x2048x64x64 (constant S_ .f32 0x7FC00000#32))

/-- The products of a query with the keys of its columns. -/
def logits (q k : FVec Ideal S16x2048x64 .f32) (a6 : IVec S131072 32) : FVec Ideal S16x2048x64 .f32 :=
  Host.dotGeneral dot_S16x2048x64_S16x2048x64x64_S16x2048x64_2_3_n_2_01_01 none q (rows k a6)

/-- The exponentials of logits with the greatest of the row, or `z` if that is greater, taken off. -/
def powersFrom (z : FVec Ideal S_ .f32) (l : FVec Ideal S16x2048x64 .f32) : FVec Ideal S16x2048x64 .f32 :=
  Host.exp (subf l (broadcastInDim S16x2048x64 ![0, 1, 2] bcast_S16x2048x1_S16x2048x64_0_1_2 (broadcastInDim S16x2048x1 ![0, 1] bcast_S16x2048_S16x2048x1_0_1 (maximumf (broadcastInDim S16x2048 ![] bcast_S_S16x2048 z) (Host.reduce FloatOps.maximumf l z reducesTo_S16x2048x64_S16x2048_d2 h_S_)))))

/-- The same from minus infinity. -/
def powers (l : FVec Ideal S16x2048x64 .f32) : FVec Ideal S16x2048x64 .f32 := powersFrom (constant S_ .f32 0xFF800000#32) l

/-- The weights of a row: each exponential by the sum of the row's. -/
def weights (p : FVec Ideal S16x2048x64 .f32) : FVec Ideal S16x2048x64 .f32 :=
  Host.divf p (broadcastInDim S16x2048x64 ![0, 1, 2] bcast_S16x2048x1_S16x2048x64_0_1_2 (broadcastInDim S16x2048x1 ![0, 1] bcast_S16x2048_S16x2048x1_0_1 (Host.reduceAdd p (constant S_ .f32 0x00000000#32) reducesTo_S16x2048x64_S16x2048_d2 h_S_)))

/-- The reference's result of its arguments. -/
def out (q k v : FVec Ideal S16x2048x64 .f32) (a6 : IVec S131072 32) : FVec Ideal S16x2048x64 .f32 :=
  Host.dotGeneral dot_S16x2048x64_S16x2048x64x64_S16x2048x64_2_2_n_3_01_01 none (weights (powers (logits q k a6))) (rows v a6)

open Cert.Band (near logit)

variable {q k v : FVec Ideal S16x2048x64 .f32} {a6 : IVec S131072 32} {f : Fin 2048 → ℕ} {Q K : Fin 16 → Fin 2048 → Fin 64 → ℝ}

theorem cols_apply (h : Cert.Band.Inputs q k a6 f Q K) (i : Fin 2048) (j : Fin 64) : cols a6 (ix2 i j) = BitVec.ofNat 32 (near h i j).val := by
  have e : cols a6 (ix2 i j) = a6 (ix1 ⟨i.val * 64 + j.val, by omega⟩) := by pointwise [cols]
  rw [e, h.col]
  rfl

theorem toInt_row (n : Fin 2048) : (BitVec.ofNat 32 n.val).toInt = n.val := by
  have h : (BitVec.ofNat 32 n.val).toNat = n.val := by rw [BitVec.toNat_ofNat]; omega
  rw [BitVec.toInt_eq_toNat_of_lt (by rw [h]; omega), h]

theorem rowIx_apply (h : Cert.Band.Inputs q k a6 f Q K) (i : Fin 2048) (j : Fin 64) : rowIx a6 (ix3 i j 0) = BitVec.ofNat 32 (near h i j).val := by
  have e : rowIx a6 (ix3 i j 0) = Scalar.select (IntOp.cmpi .slt (cols a6 (ix2 i j)) 0#32) (IntOp.addi (cols a6 (ix2 i j)) 2048#32) (cols a6 (ix2 i j)) := by
    pointwise [rowIx]
  have n : ¬IntOp.cmpi .slt (BitVec.ofNat 32 (near h i j).val) 0#32 = 1#1 := by
    rw [IntOp.cmpi_slt, toInt_row]; simp
  rw [e, cols_apply h, Scalar.select, if_neg (show ¬_ = (1 : BitVec 1) from n)]

theorem rows_apply (h : Cert.Band.Inputs q k a6 f Q K) (x : FVec Ideal S16x2048x64 .f32) (a : Fin 16) (i : Fin 2048) (j d : Fin 64) :
    rows x a6 (ix4 a i j d) = x (ix3 a (near h i j) d) := by
  have e : rows x a6 (ix4 a i j d) = Scalar.select
      (Finset.fold IntOp.andi 1#1 (fun y => IntOp.andi (IntOp.cmpi .sge (rowIx a6 (ix3 i j y)) 0#32) (IntOp.cmpi .sle (rowIx a6 (ix3 i j y)) 2047#32)) Finset.univ)
      (Host.gather gather_S16x2048x64_S2048x64x1_S16x2048x64x64_03_1_n_n_1_2_16164 x (rowIx a6) (ix4 a i j d)) (Ideal.ofBits .f32 2143289344#32) := by
    pointwise [rows]
  have ge : IntOp.cmpi .sge (BitVec.ofNat 32 (near h i j).val) 0#32 = 1#1 := by rw [IntOp.cmpi_sge, toInt_row]; simp
  have le : IntOp.cmpi .sle (BitVec.ofNat 32 (near h i j).val) 2047#32 = 1#1 := by
    rw [IntOp.cmpi_sle, toInt_row]
    have := (near h i j).isLt
    show _ ≤ (2047 : ℤ)
    omega
  have one : Finset.fold IntOp.andi 1#1 (fun y => IntOp.andi (IntOp.cmpi .sge (rowIx a6 (ix3 i j y)) 0#32) (IntOp.cmpi .sle (rowIx a6 (ix3 i j y)) 2047#32)) Finset.univ = 1#1 := by
    rw [Finset.univ_unique, Finset.fold_singleton]
    show IntOp.andi (IntOp.andi (IntOp.cmpi .sge (rowIx a6 (ix3 i j 0)) 0#32) (IntOp.cmpi .sle (rowIx a6 (ix3 i j 0)) 2047#32)) 1#1 = 1#1
    rw [rowIx_apply h, ge, le]
    rfl
  rw [e, one, Scalar.select, if_pos (show 1#1 = (1 : BitVec 1) from rfl), gather_apply]
  refine congrArg (fun n => x (ix3 a n d)) (Fin.ext ?_)
  show min (rowIx a6 (ix3 i j 0)).toInt.toNat 2047 = (near h i j).val
  rw [rowIx_apply h, toInt_row]
  exact Nat.min_eq_left (Nat.le_of_lt_succ (near h i j).isLt)

theorem logits_apply (h : Cert.Band.Inputs q k a6 f Q K) (a : Fin 16) (i : Fin 2048) (j : Fin 64) : logits q k a6 (ix3 a i j) = logit h a i j := by
  have e : logits q k a6 (ix3 a i j) = ∑ l, q (ix3 a i l) * rows k a6 (ix4 a i j l) := by pointwise [logits]
  rw [e]
  simp only [rows_apply h]
  exact Cert.Band.dot_eq h a i j

/-- The pattern of minus infinity. -/
theorem neg_inf : Ideal.ofBits .f32 4286578688#32 = ⊥ := by
  have e : (BitVec.extractLsb' 23 8 4286578688#32).toNat = 2 ^ 8 - 1 := by decide +kernel
  have f : (BitVec.extractLsb' 0 23 4286578688#32).toNat = 0 := by decide +kernel
  have n : (BitVec.extractLsb' (8 + 23) 1 4286578688#32 == 1#1) = true := by decide +kernel
  unfold Ideal.ofBits Ideal.ieee
  simp only
  rw [if_pos e, if_pos f, if_pos n]

theorem powersFrom_apply (z : FVec Ideal S_ .f32) (l : FVec Ideal S16x2048x64 .f32) (a : Fin 16) (i : Fin 2048) (j : Fin 64) :
    powersFrom z l (ix3 a i j) = Ideal.exp (l (ix3 a i j) - max (z ix0) (Finset.univ.fold max (z ix0) fun y : Fin 64 => l (ix3 a i y))) := by
  pointwise [powersFrom]
  rw [show Shape.Idx.first h_S_ = (ix0 : S_.Idx) from funext fun a => a.elim0]

theorem powers_apply (l : FVec Ideal S16x2048x64 .f32) (a : Fin 16) (i : Fin 2048) (j : Fin 64) :
    powers l (ix3 a i j) = Ideal.exp (l (ix3 a i j) - max ⊥ (Finset.univ.fold max ⊥ fun y : Fin 64 => l (ix3 a i y))) := by
  have e : (constant S_ .f32 0xFF800000#32 : FVec Ideal S_ .f32) ix0 = ⊥ := neg_inf
  unfold powers
  rw [powersFrom_apply, e]

theorem weights_apply (p : FVec Ideal S16x2048x64 .f32) (a : Fin 16) (i : Fin 2048) (j : Fin 64) :
    weights p (ix3 a i j) = Ideal.div (p (ix3 a i j)) (∑ y : Fin 64, p (ix3 a i y)) := by pointwise [weights]

/-- The reference's result at head `a`, row `i`, lane `d`, the row's weighted sum divided once. -/
theorem out_apply (h : Cert.Band.Inputs q k a6 f Q K) (v : FVec Ideal S16x2048x64 .f32) (a : Fin 16) (i : Fin 2048) (d : Fin 64) :
    out q k v a6 (ix3 a i d)
      = (∑ j, Ideal.exp (logit h a i j) * v (ix3 a (near h i j) d)) * Ideal.div 1 (∑ j, Ideal.exp (logit h a i j)) := by
  have e : out q k v a6 (ix3 a i d) = ∑ j, weights (powers (logits q k a6)) (ix3 a i j) * rows v a6 (ix4 a i j d) := by pointwise [out]
  rw [e, Cert.Band.softmax_eq (by decide)]
  simp only [weights_apply, powers_apply, logits_apply h, rows_apply h]

end Cert.ReferenceIdeal.Band

end
-- ==== Proof.Value.Result.lean ====
/- The output array against the reference's: point `t` stores head `t`'s rows, and each element there is the reference's. -/
module

public import proofs.«01_k».proof.Proof.KernelIdeal.Frame
public import proofs.«01_k».proof.Proof.Value.Block
public import proofs.«01_k».proof.Proof.Value.Rows
public import Idealize.ShloMosaic.Lib.Pipeline.ValueKit.Geometry

@[expose] public section

set_option maxRecDepth 16384

noncomputable section

namespace Cert.ReferenceIdeal.Band

open Idealize.ShloMosaic Cert.ReferenceIdeal

theorem res_eq (m : (ℓ : Loc nD τ sig) → Buf (Elt Ideal) ℓ) (c : Dev nD) :
    Value.res_main_v15 m c = out (m ((c.tc : Thread nD τ).loc main_arg0)) (m ((c.tc : Thread nD τ).loc main_arg1))
      (m ((c.tc : Thread nD τ).loc main_arg2)) (m ((c.tc : Thread nD τ).loc main_arg6)) := rfl

end Cert.ReferenceIdeal.Band

namespace Cert.KernelIdeal.Band

open Idealize.ShloMosaic Idealize.ShloMosaic.TcCoe Idealize.ShloMosaic.Tactic
open Idealize.ShloMosaic.Pipeline (Dat Cfg Window)
open Cert.KernelIdeal.Gen Cert.Band

variable (m : (ℓ : Loc nD τ sig) → Buf (Elt Ideal) ℓ)

/-- The heads that the windows name at a point. -/
theorem index_0 : ∀ t : Fin cfg0.N, win0_0.index t = ![0, 0, 0] := (by decide +kernel : ∀ t : Fin grid0.N, _)
theorem index_1 : ∀ t : Fin cfg0.N, win0_1.index t = ![(Ring.bk 16 t.val).val, 0, 0] := (by decide +kernel : ∀ t : Fin grid0.N, _)
theorem index_2 : ∀ t : Fin cfg0.N, win0_2.index t = ![(Ring.bk 16 t.val).val, 0, 0] := (by decide +kernel : ∀ t : Fin grid0.N, _)

/-- The column indices as the launch finds them. -/
theorem columns_eq (c : Dev nD) :
    V m c main_v0 = (shapeCast _ (m ((c : Thread nD τ).loc main_arg6)) shapeCasts_S131072_S1x2048x64 : IVec S1x2048x64 32) :=
  by
  show StableHlo.after hostOps0 (fun b => m (c, b)) main_v0 = _
  unfold hostOps0
  after_results_simp
  rfl

theorem rows_of (x : IVec S131072 32) (i : Fin 2048) (j : Fin 64) :
    (shapeCast S1x2048x64 x shapeCasts_S131072_S1x2048x64) (ix3 0 i j) = x (ix1 ⟨i.val * 64 + j.val, by omega⟩) := by
  pointwise

theorem block_0 (c : Dev nD) (t : Fin cfg0.N) (i : Fin 2048) (j : Fin 64) :
    iblk m c 0 t (ix3 0 i j) = V m c main_v0 (ix3 0 i j) := by
  blk_simp [iblk]
  congr 1
  blk_ext [index_0]

theorem first_col (c : Dev nD) (i : Fin 2048) :
    colsOf m c (ix3 0 i 0) = m ((c : Thread nD τ).loc main_arg6) (ix1 ⟨i.val * 64 + (0 : Fin 64).val, by have := i.isLt; simp; omega⟩) :=
  (block_0 m c _ i 0).trans ((congrFun (columns_eq m c) (ix3 0 i 0)).trans (rows_of _ i 0))

theorem query_at (c : Dev nD) (t : Fin cfg0.N) (i : Fin 2048) (l : Fin 64) :
    iblk m c 1 t (ix3 0 i l) = m ((c : Thread nD τ).loc main_arg0) (ix3 (Ring.bk 16 t.val) i l) := by
  blk_simp [iblk]
  rw [V_main_arg0]
  blk_ext [index_1]

/-- The output array is the reference's result of the arguments. -/
theorem result_eq (c : Dev nD) {f Q K} (h : Inputs (m ((c : Thread nD τ).loc main_arg0)) (m ((c : Thread nD τ).loc main_arg1))
      (m ((c : Thread nD τ).loc main_arg6)) f Q K) :
    (dats m 0 c).arrAt 2 cfg0.N
      = Cert.ReferenceIdeal.Band.out (m ((c : Thread nD τ).loc main_arg0)) (m ((c : Thread nD τ).loc main_arg1))
          (m ((c : Thread nD τ).loc main_arg2)) (m ((c : Thread nD τ).loc main_arg6)) := by
  refine (dats m 0 c).arrAt_eq_of_covers 2 _ (by decide +kernel) fun t hf y => ?_
  blk_simp
  rw [left_2]
  unfold outAt
  rw [V_main_arg1, V_main_arg2]
  obtain ⟨i, d, rfl⟩ : ∃ (i : Fin 2048) (d : Fin 64), y = ix3 (0 : Fin 1) i d := ⟨y 1, y 2, by
    funext a
    match a with
    | ⟨0, _⟩ => exact Subsingleton.elim (α := Fin 1) _ _
    | ⟨1, _⟩ => rfl
    | ⟨2, _⟩ => rfl⟩
  have place : (win0_2.blk t).view.emb (ix3 (0 : Fin 1) i d) = ix3 (Ring.bk 16 t.val) i d := by blk_ext [index_2]
  refine (blkOut_apply h _ _ _ _ (fun i => ?_) (fun i l => query_at m c t i l) i d).trans
    ((Cert.ReferenceIdeal.Band.out_apply h _ _ i d).symm.trans (congrArg _ place.symm))
  exact (first_col m c i).trans (h.col i 0)

end Cert.KernelIdeal.Band
-- ==== Proof.lean ====
/- The claims, each from its own module: the frames of the kernel (read as printed and idealized) and of the reference, the named
   constant's value, and the idealized kernel's result against the reference's. -/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Kernel.Frame
public import proofs.«01_k».proof.Proof.KernelIdeal.Frame
public import proofs.«01_k».proof.Proof.Value.Result
public import Idealize.ShloMosaic.Lib.Claim

@[expose] public section

noncomputable section

namespace Cert.Proof

open Idealize.ShloMosaic Idealize.ShloMosaic.TcCoe Idealize.SL.Sem

theorem frame_kernel : Cert.quiescent_Kernel := fun m ρ _ => Cert.Kernel.Band.frame (F := Bits) m ρ

theorem frame_idealized : Cert.quiescent_KernelIdeal := fun m ρ _ => Cert.KernelIdeal.Band.frame (F := Ideal) m ρ

/-- The reference has no semaphore, and its operations write none of its arguments. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

theorem mask_named : Cert.preserves_Kernel_KernelIdeal :=
  IdealRules.named_const.statement Cert.KernelIdeal.κ "mask" .f32 0xF149F2CA#32 ⊥ rfl

/-- Where the columns form a band and the queries and keys are finite, the two programs end with the same array: both end as the
    frames say, and the array is the reference's term of the arguments. -/
theorem same_result : Cert.algebraic_KernelIdeal_ReferenceIdeal_pre_banded_and_finite := by
  intro m g m' g' pre same
  refine ⟨fun c => (Cert.KernelIdeal.Band.dats m 0 c).arrAt 2 Cert.KernelIdeal.cfg0.N,
    (θ_run Cert.KernelIdeal.defs _ _).mono (fun r h c => ⟨(h.1 c).1 2, Cert.KernelIdeal.Band.args_kept m h.1 c⟩)
      (Cert.KernelIdeal.Band.run_both m g),
    (θ_run Cert.ReferenceIdeal.defs _ _).mono (fun r h c => ⟨?_, (h c).2⟩) (Cert.ReferenceIdeal.Value.run (F := Ideal) m' g')⟩
  obtain ⟨f, Q, K, hb⟩ := Cert.Pre_banded_and_finite.inputs _ _ _ _ _ _ _ _ (pre c)
  obtain ⟨e0, e1, e2, -, -, -, e6, -⟩ := same c
  refine (h c).1.trans ((Cert.ReferenceIdeal.Band.res_eq m' c).trans ?_)
  rw [e0, e1, e2, e6]
  exact (Cert.KernelIdeal.Band.result_eq m c hb).symm

theorem claim : Cert.Claim :=
  ⟨Cert.Kernel.Gen.facts, Cert.KernelIdeal.Gen.facts, Cert.ReferenceIdeal.Gen.facts, Cert.Pre_banded_and_finite.facts,
    frame_kernel, frame_idealized, fun m ρ _ => Cert.KernelIdeal.Band.frame (F := Ideal) m ρ, frame_reference,
    fun m ρ _ => frame_reference m ρ trivial, mask_named, same_result⟩

end Cert.Proof

end
